-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S128x2x3584 Cert.KernelIdeal.S128x1x3584
  ∧ IdealRules.bf16_pair.BufferStatement Cert.KernelIdeal.S1792x2x256 Cert.KernelIdeal.S1792x1x256
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S128x2x3584 Cert.KernelIdeal.S128x1x3584
  ∧ IdealRules.bf16_pair.Statement Cert.KernelIdeal.S256x3584 Cert.KernelIdeal.S128x3584
  ∧ IdealRules.bf16_pair.Statement Cert.KernelIdeal.S1792x2x256 Cert.KernelIdeal.S1792x1x256
  ∧ IdealRules.bf16_pair.Statement Cert.KernelIdeal.S3584x256 Cert.KernelIdeal.S1792x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x3584 : Shape := ⟨3, ![256, 1, 3584]⟩
abbrev S1792x9472 : Shape := ⟨2, ![1792, 9472]⟩
abbrev S56x9472 : Shape := ⟨2, ![56, 9472]⟩
abbrev S56x37 : Shape := ⟨2, ![56, 37]⟩
abbrev S_ : Shape := ⟨0, ![]⟩
abbrev S56x128 : Shape := ⟨2, ![56, 128]⟩
abbrev S1 : Shape := ⟨1, ![1]⟩
abbrev S256x3584 : Shape := ⟨2, ![256, 3584]⟩
abbrev S256x9472 : Shape := ⟨2, ![256, 9472]⟩
abbrev S1792x256 : Shape := ⟨2, ![1792, 256]⟩
abbrev S56x256 : Shape := ⟨2, ![56, 256]⟩
abbrev S256x256 : Shape := ⟨2, ![256, 256]⟩
abbrev S128x3584 : Shape := ⟨2, ![128, 3584]⟩
abbrev S8x128 : Shape := ⟨2, ![8, 128]⟩
abbrev S16x128 : Shape := ⟨2, ![16, 128]⟩
abbrev S8x128x1 : Shape := ⟨3, ![8, 128, 1]⟩
abbrev S32x128 : Shape := ⟨2, ![32, 128]⟩
abbrev S1x128 : Shape := ⟨2, ![1, 128]⟩
abbrev S3584x256 : Shape := ⟨2, ![3584, 256]⟩

abbrev nBuf : Space → Nat
  | .hbm => 11
  | .vmem => 11
  | .smem => 1
  | _ => 0

abbrev bufTy : (tb : Table) → Fin (tcTables nBuf tb) → BufTy
  | .hbm, ⟨0, _⟩ => ⟨S256x1x3584, .bf16⟩
  | .hbm, ⟨1, _⟩ => ⟨S1792x9472, .i8⟩
  | .hbm, ⟨2, _⟩ => ⟨S56x9472, .i8⟩
  | .hbm, ⟨3, _⟩ => ⟨S56x37, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S56x128, .f32⟩
  | .hbm, ⟨8, _⟩ => ⟨S1, .f32⟩
  | .hbm, ⟨9, _⟩ => ⟨S256x3584, .bf16⟩
  | .hbm, ⟨10, _⟩ => ⟨S256x9472, .bf16⟩
  | .local _ .vmem, ⟨0, _⟩ => ⟨S256x3584, .bf16⟩
  | .local _ .vmem, ⟨1, _⟩ => ⟨S1792x256, .i8⟩
  | .local _ .vmem, ⟨2, _⟩ => ⟨S1792x256, .i8⟩
  | .local _ .vmem, ⟨3, _⟩ => ⟨S56x256, .i8⟩
  | .local _ .vmem, ⟨4, _⟩ => ⟨S56x256, .i8⟩
  | .local _ .vmem, ⟨5, _⟩ => ⟨S56x128, .f32⟩
  | .local _ .vmem, ⟨6, _⟩ => ⟨S256x256, .bf16⟩
  | .local _ .vmem, ⟨7, _⟩ => ⟨S256x256, .bf16⟩
  | .local _ .vmem, ⟨8, _⟩ => ⟨S128x3584, .i32⟩
  | .local _ .vmem, ⟨9, _⟩ => ⟨S1792x256, .i32⟩
  | .local _ .vmem, ⟨10, _⟩ => ⟨S56x256, .f32⟩
  | .local _ .smem, ⟨0, _⟩ => ⟨S1, .f32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_53 : BitVec 32 := 0#32
  let c28_i32 : BitVec 32 := 28#32
  let v152 : BitVec 32 := Scalar.addi c0_i32_53 c28_i32
  let c1_i32_54 : BitVec 32 := 1#32
  ⟨c0_i32_53, v152, c1_i32_54⟩
def k0_mult1 (k0_t1 : Fin k0_t1_loop.trips) : BitVec 32 :=
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  v155
def k0_off1 (k0_t1 : Fin k0_t1_loop.trips) : Fin 2 → Nat :=
  let c0_58 : Index := 0#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v157 : Index := Scalar.indexCast v156
  ![0, v157.toNat]
def k0_off2 (k0_t1 : Fin k0_t1_loop.trips) : Fin 2 → Nat :=
  let c0_59 : Index := 0#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v174 : Index := Scalar.indexCast v156
  ![0, v174.toNat]
def k0_off3 (k0_t1 : Fin k0_t1_loop.trips) : Fin 2 → Nat :=
  let c16_60 : Index := 16#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v178 : Index := Scalar.indexCast v156
  ![16, v178.toNat]
def k0_off4 (k0_t1 : Fin k0_t1_loop.trips) : Fin 2 → Nat :=
  let c8_63 : Index := 8#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v195 : Index := Scalar.indexCast v156
  ![8, v195.toNat]
def k0_off5 (k0_t1 : Fin k0_t1_loop.trips) : Fin 2 → Nat :=
  let c32_64 : Index := 32#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v199 : Index := Scalar.indexCast v156
  ![32, v199.toNat]
def k0_off6 (k0_t1 : Fin k0_t1_loop.trips) : Fin 2 → Nat :=
  let c16_67 : Index := 16#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v216 : Index := Scalar.indexCast v156
  ![16, v216.toNat]
def k0_off7 (k0_t1 : Fin k0_t1_loop.trips) : Fin 2 → Nat :=
  let c48_68 : Index := 48#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v220 : Index := Scalar.indexCast v156
  ![48, v220.toNat]
def k0_off8 (k0_t1 : Fin k0_t1_loop.trips) : Fin 2 → Nat :=
  let c24_71 : Index := 24#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v237 : Index := Scalar.indexCast v156
  ![24, v237.toNat]
def k0_off9 (k0_t1 : Fin k0_t1_loop.trips) : Fin 2 → Nat :=
  let c64 : Index := 64#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v241 : Index := Scalar.indexCast v156
  ![64, v241.toNat]
def k0_off10 (k0_t1 : Fin k0_t1_loop.trips) : Fin 2 → Nat :=
  let c32_74 : Index := 32#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v258 : Index := Scalar.indexCast v156
  ![32, v258.toNat]
def k0_off11 (k0_t1 : Fin k0_t1_loop.trips) : Fin 2 → Nat :=
  let c80 : Index := 80#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v262 : Index := Scalar.indexCast v156
  ![80, v262.toNat]
def k0_off12 (k0_t1 : Fin k0_t1_loop.trips) : Fin 2 → Nat :=
  let c40_77 : Index := 40#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v279 : Index := Scalar.indexCast v156
  ![40, v279.toNat]
def k0_off13 (k0_t1 : Fin k0_t1_loop.trips) : Fin 2 → Nat :=
  let c96 : Index := 96#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v283 : Index := Scalar.indexCast v156
  ![96, v283.toNat]
def k0_off14 (k0_t1 : Fin k0_t1_loop.trips) : Fin 2 → Nat :=
  let c48_80 : Index := 48#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v300 : Index := Scalar.indexCast v156
  ![48, v300.toNat]
def k0_off15 (k0_t1 : Fin k0_t1_loop.trips) : Fin 2 → Nat :=
  let c112 : Index := 112#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v304 : Index := Scalar.indexCast v156
  ![112, v304.toNat]
def k0_off16 (k0_t1 : Fin k0_t1_loop.trips) : Fin 2 → Nat :=
  let c56 : Index := 56#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v321 : Index := Scalar.indexCast v156
  ![56, v321.toNat]
def k0_off17 (k0_t1 : Fin k0_t1_loop.trips) : Fin 2 → Nat :=
  let c128_83 : Index := 128#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v325 : Index := Scalar.indexCast v156
  ![128, v325.toNat]
def k0_off18 (k0_t1 : Fin k0_t1_loop.trips) : Fin 2 → Nat :=
  let c64_86 : Index := 64#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v342 : Index := Scalar.indexCast v156
  ![64, v342.toNat]
def k0_off19 (k0_t1 : Fin k0_t1_loop.trips) : Fin 2 → Nat :=
  let c144 : Index := 144#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v346 : Index := Scalar.indexCast v156
  ![144, v346.toNat]
def k0_off20 (k0_t1 : Fin k0_t1_loop.trips) : Fin 2 → Nat :=
  let c72 : Index := 72#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v363 : Index := Scalar.indexCast v156
  ![72, v363.toNat]
def k0_off21 (k0_t1 : Fin k0_t1_loop.trips) : Fin 2 → Nat :=
  let c160 : Index := 160#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v367 : Index := Scalar.indexCast v156
  ![160, v367.toNat]
def k0_off22 (k0_t1 : Fin k0_t1_loop.trips) : Fin 2 → Nat :=
  let c80_91 : Index := 80#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v384 : Index := Scalar.indexCast v156
  ![80, v384.toNat]
def k0_off23 (k0_t1 : Fin k0_t1_loop.trips) : Fin 2 → Nat :=
  let c176 : Index := 176#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v388 : Index := Scalar.indexCast v156
  ![176, v388.toNat]
def k0_off24 (k0_t1 : Fin k0_t1_loop.trips) : Fin 2 → Nat :=
  let c88 : Index := 88#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v405 : Index := Scalar.indexCast v156
  ![88, v405.toNat]
def k0_off25 (k0_t1 : Fin k0_t1_loop.trips) : Fin 2 → Nat :=
  let c192 : Index := 192#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v409 : Index := Scalar.indexCast v156
  ![192, v409.toNat]
def k0_off26 (k0_t1 : Fin k0_t1_loop.trips) : Fin 2 → Nat :=
  let c96_96 : Index := 96#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v426 : Index := Scalar.indexCast v156
  ![96, v426.toNat]
def k0_off27 (k0_t1 : Fin k0_t1_loop.trips) : Fin 2 → Nat :=
  let c208 : Index := 208#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v430 : Index := Scalar.indexCast v156
  ![208, v430.toNat]
def k0_off28 (k0_t1 : Fin k0_t1_loop.trips) : Fin 2 → Nat :=
  let c104 : Index := 104#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v447 : Index := Scalar.indexCast v156
  ![104, v447.toNat]
def k0_off29 (k0_t1 : Fin k0_t1_loop.trips) : Fin 2 → Nat :=
  let c224 : Index := 224#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v451 : Index := Scalar.indexCast v156
  ![224, v451.toNat]
def k0_off30 (k0_t1 : Fin k0_t1_loop.trips) : Fin 2 → Nat :=
  let c112_101 : Index := 112#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v468 : Index := Scalar.indexCast v156
  ![112, v468.toNat]
def k0_off31 (k0_t1 : Fin k0_t1_loop.trips) : Fin 2 → Nat :=
  let c240 : Index := 240#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v472 : Index := Scalar.indexCast v156
  ![240, v472.toNat]
def k0_off32 (k0_t1 : Fin k0_t1_loop.trips) : Fin 2 → Nat :=
  let c120 : Index := 120#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v489 : Index := Scalar.indexCast v156
  ![120, v489.toNat]
@[reducible] def k0_t2_loop : Scf.Loop 32 :=
  let c0_i32_39 : BitVec 32 := 0#32
  let c56_i32 : BitVec 32 := 56#32
  let v124 : BitVec 32 := Scalar.addi c0_i32_39 c56_i32
  let c1_i32_40 : BitVec 32 := 1#32
  ⟨c0_i32_39, v124, c1_i32_40⟩
def k0_mult2 (k0_t2 : Fin k0_t2_loop.trips) : BitVec 32 :=
  let c32_i32 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v134 : BitVec 32 := Scalar.muli c32_i32 v133
  v134
def k0_off33 (k0_t2 : Fin k0_t2_loop.trips) : Fin 2 → Nat :=
  let c32_i32 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v134 : BitVec 32 := Scalar.muli c32_i32 v133
  let v135 : BitVec 32 := v134
  let v136 : Index := Scalar.indexCast v135
  let c0_51 : Index := 0#32
  ![v136.toNat, 0]
def k0_off34 (k0_t2 : Fin k0_t2_loop.trips) : Fin 2 → Nat :=
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v138 : Index := Scalar.indexCast v133
  let c0_52 : Index := 0#32
  ![v138.toNat, 0]
def k0_mult3 (k0_t2 : Fin k0_t2_loop.trips) : BitVec 32 :=
  let c32_i32_92 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v293 : BitVec 32 := Scalar.muli c32_i32_92 v133
  let c0_i32_93 : BitVec 32 := 0#32
  let v294 : BitVec 32 := Scalar.addi v293 c0_i32_93
  v294
def k0_off35 (k0_t2 : Fin k0_t2_loop.trips) (c0_i32_93 : BitVec 32) : Fin 2 → Nat :=
  let c32_i32_92 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v293 : BitVec 32 := Scalar.muli c32_i32_92 v133
  let v294 : BitVec 32 := Scalar.addi v293 c0_i32_93
  let v295 : BitVec 32 := v294
  let v296 : Index := Scalar.indexCast v295
  let c0_94 : Index := 0#32
  ![v296.toNat, 0]
def k0_mult4 (k0_t2 : Fin k0_t2_loop.trips) : BitVec 32 :=
  let c32_i32_95 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v300 : BitVec 32 := Scalar.muli c32_i32_95 v133
  let c8_i32 : BitVec 32 := 8#32
  let v301 : BitVec 32 := Scalar.addi v300 c8_i32
  v301
def k0_mult5 (k0_t2 : Fin k0_t2_loop.trips) : BitVec 32 :=
  let c32_i32_97 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v307 : BitVec 32 := Scalar.muli c32_i32_97 v133
  let c16_i32 : BitVec 32 := 16#32
  let v308 : BitVec 32 := Scalar.addi v307 c16_i32
  v308
def k0_mult6 (k0_t2 : Fin k0_t2_loop.trips) : BitVec 32 :=
  let c32_i32_99 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v314 : BitVec 32 := Scalar.muli c32_i32_99 v133
  let c24_i32 : BitVec 32 := 24#32
  let v315 : BitVec 32 := Scalar.addi v314 c24_i32
  v315
def k0_mult7 (k0_t2 : Fin k0_t2_loop.trips) : BitVec 32 :=
  let c32_i32_101 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v321 : BitVec 32 := Scalar.muli c32_i32_101 v133
  v321
def k0_off36 (k0_t2 : Fin k0_t2_loop.trips) : Fin 2 → Nat :=
  let c32_i32_101 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v321 : BitVec 32 := Scalar.muli c32_i32_101 v133
  let v322 : BitVec 32 := v321
  let v323 : Index := Scalar.indexCast v322
  let c128_102 : Index := 128#32
  ![v323.toNat, 128]
def k0_off37 (k0_t2 : Fin k0_t2_loop.trips) : Fin 2 → Nat :=
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v325 : Index := Scalar.indexCast v133
  let c128_103 : Index := 128#32
  ![v325.toNat, 128]
def k0_mult8 (k0_t2 : Fin k0_t2_loop.trips) : BitVec 32 :=
  let c32_i32_148 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v480 : BitVec 32 := Scalar.muli c32_i32_148 v133
  let c0_i32_149 : BitVec 32 := 0#32
  let v481 : BitVec 32 := Scalar.addi v480 c0_i32_149
  v481
def k0_off38 (k0_t2 : Fin k0_t2_loop.trips) (c0_i32_149 : BitVec 32) : Fin 2 → Nat :=
  let c32_i32_148 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v480 : BitVec 32 := Scalar.muli c32_i32_148 v133
  let v481 : BitVec 32 := Scalar.addi v480 c0_i32_149
  let v482 : BitVec 32 := v481
  let v483 : Index := Scalar.indexCast v482
  let c128_150 : Index := 128#32
  ![v483.toNat, 128]
def k0_mult9 (k0_t2 : Fin k0_t2_loop.trips) : BitVec 32 :=
  let c32_i32_151 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v487 : BitVec 32 := Scalar.muli c32_i32_151 v133
  let c8_i32_152 : BitVec 32 := 8#32
  let v488 : BitVec 32 := Scalar.addi v487 c8_i32_152
  v488
def k0_mult10 (k0_t2 : Fin k0_t2_loop.trips) : BitVec 32 :=
  let c32_i32_154 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v494 : BitVec 32 := Scalar.muli c32_i32_154 v133
  let c16_i32_155 : BitVec 32 := 16#32
  let v495 : BitVec 32 := Scalar.addi v494 c16_i32_155
  v495
def k0_mult11 (k0_t2 : Fin k0_t2_loop.trips) : BitVec 32 :=
  let c32_i32_157 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v501 : BitVec 32 := Scalar.muli c32_i32_157 v133
  let c24_i32_158 : BitVec 32 := 24#32
  let v502 : BitVec 32 := Scalar.addi v501 c24_i32_158
  v502
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S256x1x3584 : Shape := ⟨3, ![256, 1, 3584]⟩
abbrev S1792x9472 : Shape := ⟨2, ![1792, 9472]⟩
abbrev S56x9472 : Shape := ⟨2, ![56, 9472]⟩
abbrev S56x37 : Shape := ⟨2, ![56, 37]⟩
abbrev S_ : Shape := ⟨0, ![]⟩
abbrev S56x128 : Shape := ⟨2, ![56, 128]⟩
abbrev S1 : Shape := ⟨1, ![1]⟩
abbrev S256x3584 : Shape := ⟨2, ![256, 3584]⟩
abbrev S256x9472 : Shape := ⟨2, ![256, 9472]⟩
abbrev S1792x256 : Shape := ⟨2, ![1792, 256]⟩
abbrev S56x256 : Shape := ⟨2, ![56, 256]⟩
abbrev S256x256 : Shape := ⟨2, ![256, 256]⟩
abbrev S128x3584 : Shape := ⟨2, ![128, 3584]⟩
abbrev S128x2x3584 : Shape := ⟨3, ![128, 2, 3584]⟩
abbrev S128x1x3584 : Shape := ⟨3, ![128, 1, 3584]⟩
abbrev S1792x2x256 : Shape := ⟨3, ![1792, 2, 256]⟩
abbrev S1792x1x256 : Shape := ⟨3, ![1792, 1, 256]⟩
abbrev S8x128 : Shape := ⟨2, ![8, 128]⟩
abbrev S16x128 : Shape := ⟨2, ![16, 128]⟩
abbrev S8x128x1 : Shape := ⟨3, ![8, 128, 1]⟩
abbrev S8x2x128 : Shape := ⟨3, ![8, 2, 128]⟩
abbrev S8x1x128 : Shape := ⟨3, ![8, 1, 128]⟩
abbrev S32x128 : Shape := ⟨2, ![32, 128]⟩
abbrev S1x128 : Shape := ⟨2, ![1, 128]⟩
abbrev S3584x256 : Shape := ⟨2, ![3584, 256]⟩

abbrev nBuf : Space → Nat
  | .hbm => 11
  | .vmem => 11
  | .smem => 1
  | _ => 0

abbrev bufTy : (tb : Table) → Fin (tcTables nBuf tb) → BufTy
  | .hbm, ⟨0, _⟩ => ⟨S256x1x3584, .bf16⟩
  | .hbm, ⟨1, _⟩ => ⟨S1792x9472, .i8⟩
  | .hbm, ⟨2, _⟩ => ⟨S56x9472, .i8⟩
  | .hbm, ⟨3, _⟩ => ⟨S56x37, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S56x128, .f32⟩
  | .hbm, ⟨8, _⟩ => ⟨S1, .f32⟩
  | .hbm, ⟨9, _⟩ => ⟨S256x3584, .bf16⟩
  | .hbm, ⟨10, _⟩ => ⟨S256x9472, .bf16⟩
  | .local _ .vmem, ⟨0, _⟩ => ⟨S256x3584, .bf16⟩
  | .local _ .vmem, ⟨1, _⟩ => ⟨S1792x256, .i8⟩
  | .local _ .vmem, ⟨2, _⟩ => ⟨S1792x256, .i8⟩
  | .local _ .vmem, ⟨3, _⟩ => ⟨S56x256, .i8⟩
  | .local _ .vmem, ⟨4, _⟩ => ⟨S56x256, .i8⟩
  | .local _ .vmem, ⟨5, _⟩ => ⟨S56x128, .f32⟩
  | .local _ .vmem, ⟨6, _⟩ => ⟨S256x256, .bf16⟩
  | .local _ .vmem, ⟨7, _⟩ => ⟨S256x256, .bf16⟩
  | .local _ .vmem, ⟨8, _⟩ => ⟨S128x2x3584, .bf16⟩
  | .local _ .vmem, ⟨9, _⟩ => ⟨S1792x2x256, .bf16⟩
  | .local _ .vmem, ⟨10, _⟩ => ⟨S56x256, .f32⟩
  | .local _ .smem, ⟨0, _⟩ => ⟨S1, .f32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_53 : BitVec 32 := 0#32
  let c28_i32 : BitVec 32 := 28#32
  let v152 : BitVec 32 := Scalar.addi c0_i32_53 c28_i32
  let c1_i32_54 : BitVec 32 := 1#32
  ⟨c0_i32_53, v152, c1_i32_54⟩
def k0_mult1 (k0_t1 : Fin k0_t1_loop.trips) : BitVec 32 :=
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  v155
def k0_off1 (k0_t1 : Fin k0_t1_loop.trips) : Fin 2 → Nat :=
  let c0_58 : Index := 0#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v157 : Index := Scalar.indexCast v156
  ![0, v157.toNat]
def k0_off2 (k0_t1 : Fin k0_t1_loop.trips) : Fin 3 → Nat :=
  let c0_59 : Index := 0#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v174 : Index := Scalar.indexCast v156
  ![0, 0, v174.toNat]
def k0_off3 (k0_t1 : Fin k0_t1_loop.trips) : Fin 2 → Nat :=
  let c16_60 : Index := 16#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v178 : Index := Scalar.indexCast v156
  ![16, v178.toNat]
def k0_off4 (k0_t1 : Fin k0_t1_loop.trips) : Fin 3 → Nat :=
  let c8_63 : Index := 8#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v195 : Index := Scalar.indexCast v156
  ![8, 0, v195.toNat]
def k0_off5 (k0_t1 : Fin k0_t1_loop.trips) : Fin 2 → Nat :=
  let c32_64 : Index := 32#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v199 : Index := Scalar.indexCast v156
  ![32, v199.toNat]
def k0_off6 (k0_t1 : Fin k0_t1_loop.trips) : Fin 3 → Nat :=
  let c16_67 : Index := 16#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v216 : Index := Scalar.indexCast v156
  ![16, 0, v216.toNat]
def k0_off7 (k0_t1 : Fin k0_t1_loop.trips) : Fin 2 → Nat :=
  let c48_68 : Index := 48#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v220 : Index := Scalar.indexCast v156
  ![48, v220.toNat]
def k0_off8 (k0_t1 : Fin k0_t1_loop.trips) : Fin 3 → Nat :=
  let c24_71 : Index := 24#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v237 : Index := Scalar.indexCast v156
  ![24, 0, v237.toNat]
def k0_off9 (k0_t1 : Fin k0_t1_loop.trips) : Fin 2 → Nat :=
  let c64 : Index := 64#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v241 : Index := Scalar.indexCast v156
  ![64, v241.toNat]
def k0_off10 (k0_t1 : Fin k0_t1_loop.trips) : Fin 3 → Nat :=
  let c32_74 : Index := 32#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v258 : Index := Scalar.indexCast v156
  ![32, 0, v258.toNat]
def k0_off11 (k0_t1 : Fin k0_t1_loop.trips) : Fin 2 → Nat :=
  let c80 : Index := 80#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v262 : Index := Scalar.indexCast v156
  ![80, v262.toNat]
def k0_off12 (k0_t1 : Fin k0_t1_loop.trips) : Fin 3 → Nat :=
  let c40_77 : Index := 40#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v279 : Index := Scalar.indexCast v156
  ![40, 0, v279.toNat]
def k0_off13 (k0_t1 : Fin k0_t1_loop.trips) : Fin 2 → Nat :=
  let c96 : Index := 96#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v283 : Index := Scalar.indexCast v156
  ![96, v283.toNat]
def k0_off14 (k0_t1 : Fin k0_t1_loop.trips) : Fin 3 → Nat :=
  let c48_80 : Index := 48#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v300 : Index := Scalar.indexCast v156
  ![48, 0, v300.toNat]
def k0_off15 (k0_t1 : Fin k0_t1_loop.trips) : Fin 2 → Nat :=
  let c112 : Index := 112#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v304 : Index := Scalar.indexCast v156
  ![112, v304.toNat]
def k0_off16 (k0_t1 : Fin k0_t1_loop.trips) : Fin 3 → Nat :=
  let c56 : Index := 56#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v321 : Index := Scalar.indexCast v156
  ![56, 0, v321.toNat]
def k0_off17 (k0_t1 : Fin k0_t1_loop.trips) : Fin 2 → Nat :=
  let c128_83 : Index := 128#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v325 : Index := Scalar.indexCast v156
  ![128, v325.toNat]
def k0_off18 (k0_t1 : Fin k0_t1_loop.trips) : Fin 3 → Nat :=
  let c64_86 : Index := 64#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v342 : Index := Scalar.indexCast v156
  ![64, 0, v342.toNat]
def k0_off19 (k0_t1 : Fin k0_t1_loop.trips) : Fin 2 → Nat :=
  let c144 : Index := 144#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v346 : Index := Scalar.indexCast v156
  ![144, v346.toNat]
def k0_off20 (k0_t1 : Fin k0_t1_loop.trips) : Fin 3 → Nat :=
  let c72 : Index := 72#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v363 : Index := Scalar.indexCast v156
  ![72, 0, v363.toNat]
def k0_off21 (k0_t1 : Fin k0_t1_loop.trips) : Fin 2 → Nat :=
  let c160 : Index := 160#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v367 : Index := Scalar.indexCast v156
  ![160, v367.toNat]
def k0_off22 (k0_t1 : Fin k0_t1_loop.trips) : Fin 3 → Nat :=
  let c80_91 : Index := 80#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v384 : Index := Scalar.indexCast v156
  ![80, 0, v384.toNat]
def k0_off23 (k0_t1 : Fin k0_t1_loop.trips) : Fin 2 → Nat :=
  let c176 : Index := 176#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v388 : Index := Scalar.indexCast v156
  ![176, v388.toNat]
def k0_off24 (k0_t1 : Fin k0_t1_loop.trips) : Fin 3 → Nat :=
  let c88 : Index := 88#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v405 : Index := Scalar.indexCast v156
  ![88, 0, v405.toNat]
def k0_off25 (k0_t1 : Fin k0_t1_loop.trips) : Fin 2 → Nat :=
  let c192 : Index := 192#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v409 : Index := Scalar.indexCast v156
  ![192, v409.toNat]
def k0_off26 (k0_t1 : Fin k0_t1_loop.trips) : Fin 3 → Nat :=
  let c96_96 : Index := 96#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v426 : Index := Scalar.indexCast v156
  ![96, 0, v426.toNat]
def k0_off27 (k0_t1 : Fin k0_t1_loop.trips) : Fin 2 → Nat :=
  let c208 : Index := 208#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v430 : Index := Scalar.indexCast v156
  ![208, v430.toNat]
def k0_off28 (k0_t1 : Fin k0_t1_loop.trips) : Fin 3 → Nat :=
  let c104 : Index := 104#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v447 : Index := Scalar.indexCast v156
  ![104, 0, v447.toNat]
def k0_off29 (k0_t1 : Fin k0_t1_loop.trips) : Fin 2 → Nat :=
  let c224 : Index := 224#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v451 : Index := Scalar.indexCast v156
  ![224, v451.toNat]
def k0_off30 (k0_t1 : Fin k0_t1_loop.trips) : Fin 3 → Nat :=
  let c112_101 : Index := 112#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v468 : Index := Scalar.indexCast v156
  ![112, 0, v468.toNat]
def k0_off31 (k0_t1 : Fin k0_t1_loop.trips) : Fin 2 → Nat :=
  let c240 : Index := 240#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v472 : Index := Scalar.indexCast v156
  ![240, v472.toNat]
def k0_off32 (k0_t1 : Fin k0_t1_loop.trips) : Fin 3 → Nat :=
  let c120 : Index := 120#32
  let c128_i32 : BitVec 32 := 128#32
  let c0_i32_57 : BitVec 32 := 0#32
  let c0_i32_53 : BitVec 32 := 0#32
  let c1_i32_54 : BitVec 32 := 1#32
  let arg10 : BitVec 32 := Scf.iv c0_i32_53 c1_i32_54 k0_t1
  let c1_i32_56 : BitVec 32 := 1#32
  let v153 : BitVec 32 := Scalar.muli arg10 c1_i32_56
  let v154 : BitVec 32 := Scalar.addi c0_i32_57 v153
  let v155 : BitVec 32 := Scalar.muli c128_i32 v154
  let v156 : BitVec 32 := v155
  let v489 : Index := Scalar.indexCast v156
  ![120, 0, v489.toNat]
@[reducible] def k0_t2_loop : Scf.Loop 32 :=
  let c0_i32_39 : BitVec 32 := 0#32
  let c56_i32 : BitVec 32 := 56#32
  let v124 : BitVec 32 := Scalar.addi c0_i32_39 c56_i32
  let c1_i32_40 : BitVec 32 := 1#32
  ⟨c0_i32_39, v124, c1_i32_40⟩
def k0_mult2 (k0_t2 : Fin k0_t2_loop.trips) : BitVec 32 :=
  let c32_i32 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v134 : BitVec 32 := Scalar.muli c32_i32 v133
  v134
def k0_off33 (k0_t2 : Fin k0_t2_loop.trips) : Fin 2 → Nat :=
  let c32_i32 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v134 : BitVec 32 := Scalar.muli c32_i32 v133
  let v135 : BitVec 32 := v134
  let v136 : Index := Scalar.indexCast v135
  let c0_51 : Index := 0#32
  ![v136.toNat, 0]
def k0_off34 (k0_t2 : Fin k0_t2_loop.trips) : Fin 2 → Nat :=
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v138 : Index := Scalar.indexCast v133
  let c0_52 : Index := 0#32
  ![v138.toNat, 0]
def k0_mult3 (k0_t2 : Fin k0_t2_loop.trips) : BitVec 32 :=
  let c32_i32_92 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v293 : BitVec 32 := Scalar.muli c32_i32_92 v133
  let c0_i32_93 : BitVec 32 := 0#32
  let v294 : BitVec 32 := Scalar.addi v293 c0_i32_93
  v294
def k0_off35 (k0_t2 : Fin k0_t2_loop.trips) (c0_i32_93 : BitVec 32) : Fin 3 → Nat :=
  let c32_i32_92 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v293 : BitVec 32 := Scalar.muli c32_i32_92 v133
  let v294 : BitVec 32 := Scalar.addi v293 c0_i32_93
  let v295 : BitVec 32 := v294
  let v296 : Index := Scalar.indexCast v295
  let c0_94 : Index := 0#32
  ![v296.toNat, 0, 0]
def k0_mult4 (k0_t2 : Fin k0_t2_loop.trips) : BitVec 32 :=
  let c32_i32_95 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v300 : BitVec 32 := Scalar.muli c32_i32_95 v133
  let c8_i32 : BitVec 32 := 8#32
  let v301 : BitVec 32 := Scalar.addi v300 c8_i32
  v301
def k0_mult5 (k0_t2 : Fin k0_t2_loop.trips) : BitVec 32 :=
  let c32_i32_97 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v307 : BitVec 32 := Scalar.muli c32_i32_97 v133
  let c16_i32 : BitVec 32 := 16#32
  let v308 : BitVec 32 := Scalar.addi v307 c16_i32
  v308
def k0_mult6 (k0_t2 : Fin k0_t2_loop.trips) : BitVec 32 :=
  let c32_i32_99 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v314 : BitVec 32 := Scalar.muli c32_i32_99 v133
  let c24_i32 : BitVec 32 := 24#32
  let v315 : BitVec 32 := Scalar.addi v314 c24_i32
  v315
def k0_mult7 (k0_t2 : Fin k0_t2_loop.trips) : BitVec 32 :=
  let c32_i32_101 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v321 : BitVec 32 := Scalar.muli c32_i32_101 v133
  v321
def k0_off36 (k0_t2 : Fin k0_t2_loop.trips) : Fin 2 → Nat :=
  let c32_i32_101 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v321 : BitVec 32 := Scalar.muli c32_i32_101 v133
  let v322 : BitVec 32 := v321
  let v323 : Index := Scalar.indexCast v322
  let c128_102 : Index := 128#32
  ![v323.toNat, 128]
def k0_off37 (k0_t2 : Fin k0_t2_loop.trips) : Fin 2 → Nat :=
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v325 : Index := Scalar.indexCast v133
  let c128_103 : Index := 128#32
  ![v325.toNat, 128]
def k0_mult8 (k0_t2 : Fin k0_t2_loop.trips) : BitVec 32 :=
  let c32_i32_148 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v480 : BitVec 32 := Scalar.muli c32_i32_148 v133
  let c0_i32_149 : BitVec 32 := 0#32
  let v481 : BitVec 32 := Scalar.addi v480 c0_i32_149
  v481
def k0_off38 (k0_t2 : Fin k0_t2_loop.trips) (c0_i32_149 : BitVec 32) : Fin 3 → Nat :=
  let c32_i32_148 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v480 : BitVec 32 := Scalar.muli c32_i32_148 v133
  let v481 : BitVec 32 := Scalar.addi v480 c0_i32_149
  let v482 : BitVec 32 := v481
  let v483 : Index := Scalar.indexCast v482
  let c128_150 : Index := 128#32
  ![v483.toNat, 0, 128]
def k0_mult9 (k0_t2 : Fin k0_t2_loop.trips) : BitVec 32 :=
  let c32_i32_151 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v487 : BitVec 32 := Scalar.muli c32_i32_151 v133
  let c8_i32_152 : BitVec 32 := 8#32
  let v488 : BitVec 32 := Scalar.addi v487 c8_i32_152
  v488
def k0_mult10 (k0_t2 : Fin k0_t2_loop.trips) : BitVec 32 :=
  let c32_i32_154 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v494 : BitVec 32 := Scalar.muli c32_i32_154 v133
  let c16_i32_155 : BitVec 32 := 16#32
  let v495 : BitVec 32 := Scalar.addi v494 c16_i32_155
  v495
def k0_mult11 (k0_t2 : Fin k0_t2_loop.trips) : BitVec 32 :=
  let c32_i32_157 : BitVec 32 := 32#32
  let c0_i32_50 : BitVec 32 := 0#32
  let c0_i32_39 : BitVec 32 := 0#32
  let c1_i32_40 : BitVec 32 := 1#32
  let arg10 : BitVec 32 := Scf.iv c0_i32_39 c1_i32_40 k0_t2
  let c1_i32_49 : BitVec 32 := 1#32
  let v132 : BitVec 32 := Scalar.muli arg10 c1_i32_49
  let v133 : BitVec 32 := Scalar.addi c0_i32_50 v132
  let v501 : BitVec 32 := Scalar.muli c32_i32_157 v133
  let c24_i32_158 : BitVec 32 := 24#32
  let v502 : BitVec 32 := Scalar.addi v501 c24_i32_158
  v502
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x3584 : Shape := ⟨3, ![256, 1, 3584]⟩
abbrev S1792x9472 : Shape := ⟨2, ![1792, 9472]⟩
abbrev S56x9472 : Shape := ⟨2, ![56, 9472]⟩
abbrev S56x37 : Shape := ⟨2, ![56, 37]⟩
abbrev S_ : Shape := ⟨0, ![]⟩
abbrev S56x37x256 : Shape := ⟨3, ![56, 37, 256]⟩
abbrev S56x37x1 : Shape := ⟨3, ![56, 37, 1]⟩
abbrev S56x32x9472 : Shape := ⟨3, ![56, 32, 9472]⟩
abbrev S56x1x9472 : Shape := ⟨3, ![56, 1, 9472]⟩
abbrev S256x1x1792 : Shape := ⟨3, ![256, 1, 1792]⟩
abbrev S256x1x9472 : Shape := ⟨3, ![256, 1, 9472]⟩
abbrev S256x9472 : Shape := ⟨2, ![256, 9472]⟩

abbrev nBuf : Space → Nat
  | .hbm => 182
  | .vmem => 0
  | .smem => 0
  | _ => 0

abbrev hbmTy0_0 (i : Nat) : BufTy := match i % 128 with
  | 0 => ⟨S256x1x3584, .bf16⟩
  | 1 => ⟨S1792x9472, .i8⟩
  | 2 => ⟨S56x9472, .i8⟩
  | 3 => ⟨S56x37, .f32⟩
  | 4 => ⟨S_, .f32⟩
  | 5 => ⟨S56x9472, .i32⟩
  | 6 => ⟨S56x9472, .f32⟩
  | 7 => ⟨S56x37x256, .f32⟩
  | 8 => ⟨S56x37x1, .f32⟩
  | 9 => ⟨S56x37x256, .f32⟩
  | 10 => ⟨S56x37x256, .f32⟩
  | 11 => ⟨S56x37x256, .f32⟩
  | 12 => ⟨S56x37x256, .f32⟩
  | 13 => ⟨S56x9472, .f32⟩
  | 14 => ⟨S1792x9472, .i32⟩
  | 15 => ⟨S_, .i32⟩
  | 16 => ⟨S1792x9472, .i32⟩
  | 17 => ⟨S1792x9472, .i32⟩
  | 18 => ⟨S_, .i32⟩
  | 19 => ⟨S1792x9472, .i32⟩
  | 20 => ⟨S1792x9472, .i32⟩
  | 21 => ⟨S_, .i32⟩
  | 22 => ⟨S1792x9472, .i32⟩
  | 23 => ⟨S1792x9472, .i32⟩
  | 24 => ⟨S_, .i32⟩
  | 25 => ⟨S1792x9472, .i32⟩
  | 26 => ⟨S1792x9472, .i1⟩
  | 27 => ⟨S_, .f32⟩
  | 28 => ⟨S_, .f32⟩
  | 29 => ⟨S1792x9472, .f32⟩
  | 30 => ⟨S1792x9472, .f32⟩
  | 31 => ⟨S1792x9472, .f32⟩
  | 32 => ⟨S_, .f32⟩
  | 33 => ⟨S_, .f32⟩
  | 34 => ⟨S1792x9472, .f32⟩
  | 35 => ⟨S1792x9472, .f32⟩
  | 36 => ⟨S1792x9472, .f32⟩
  | 37 => ⟨S_, .f32⟩
  | 38 => ⟨S_, .f32⟩
  | 39 => ⟨S1792x9472, .f32⟩
  | 40 => ⟨S1792x9472, .f32⟩
  | 41 => ⟨S1792x9472, .f32⟩
  | 42 => ⟨S_, .f32⟩
  | 43 => ⟨S_, .f32⟩
  | 44 => ⟨S1792x9472, .f32⟩
  | 45 => ⟨S1792x9472, .f32⟩
  | 46 => ⟨S1792x9472, .f32⟩
  | 47 => ⟨S_, .f32⟩
  | 48 => ⟨S_, .f32⟩
  | 49 => ⟨S1792x9472, .f32⟩
  | 50 => ⟨S1792x9472, .f32⟩
  | 51 => ⟨S1792x9472, .f32⟩
  | 52 => ⟨S_, .f32⟩
  | 53 => ⟨S_, .f32⟩
  | 54 => ⟨S1792x9472, .f32⟩
  | 55 => ⟨S1792x9472, .f32⟩
  | 56 => ⟨S1792x9472, .f32⟩
  | 57 => ⟨S_, .f32⟩
  | 58 => ⟨S_, .f32⟩
  | 59 => ⟨S1792x9472, .f32⟩
  | 60 => ⟨S1792x9472, .f32⟩
  | 61 => ⟨S1792x9472, .f32⟩
  | 62 => ⟨S_, .f32⟩
  | 63 => ⟨S_, .f32⟩
  | 64 => ⟨S1792x9472, .f32⟩
  | 65 => ⟨S1792x9472, .f32⟩
  | 66 => ⟨S1792x9472, .f32⟩
  | 67 => ⟨S_, .i32⟩
  | 68 => ⟨S1792x9472, .i32⟩
  | 69 => ⟨S1792x9472, .i32⟩
  | 70 => ⟨S_, .i32⟩
  | 71 => ⟨S1792x9472, .i32⟩
  | 72 => ⟨S1792x9472, .i1⟩
  | 73 => ⟨S1792x9472, .f32⟩
  | 74 => ⟨S1792x9472, .f32⟩
  | 75 => ⟨S1792x9472, .f32⟩
  | 76 => ⟨S1792x9472, .f32⟩
  | 77 => ⟨S_, .i32⟩
  | 78 => ⟨S1792x9472, .i32⟩
  | 79 => ⟨S1792x9472, .i32⟩
  | 80 => ⟨S_, .i32⟩
  | 81 => ⟨S1792x9472, .i32⟩
  | 82 => ⟨S1792x9472, .i1⟩
  | 83 => ⟨S1792x9472, .f32⟩
  | 84 => ⟨S1792x9472, .f32⟩
  | 85 => ⟨S_, .i32⟩
  | 86 => ⟨S1792x9472, .i32⟩
  | 87 => ⟨S1792x9472, .i32⟩
  | 88 => ⟨S_, .i32⟩
  | 89 => ⟨S1792x9472, .i32⟩
  | 90 => ⟨S1792x9472, .i1⟩
  | 91 => ⟨S1792x9472, .f32⟩
  | 92 => ⟨S56x32x9472, .f32⟩
  | 93 => ⟨S56x1x9472, .f32⟩
  | 94 => ⟨S56x32x9472, .f32⟩
  | 95 => ⟨S56x32x9472, .f32⟩
  | 96 => ⟨S1792x9472, .f32⟩
  | 97 => ⟨S1792x9472, .bf16⟩
  | 98 => ⟨S_, .i32⟩
  | 99 => ⟨S1792x9472, .i32⟩
  | 100 => ⟨S1792x9472, .i32⟩
  | 101 => ⟨S_, .i32⟩
  | 102 => ⟨S1792x9472, .i32⟩
  | 103 => ⟨S1792x9472, .i1⟩
  | 104 => ⟨S_, .f32⟩
  | 105 => ⟨S_, .f32⟩
  | 106 => ⟨S1792x9472, .f32⟩
  | 107 => ⟨S1792x9472, .f32⟩
  | 108 => ⟨S1792x9472, .f32⟩
  | 109 => ⟨S_, .f32⟩
  | 110 => ⟨S_, .f32⟩
  | 111 => ⟨S1792x9472, .f32⟩
  | 112 => ⟨S1792x9472, .f32⟩
  | 113 => ⟨S1792x9472, .f32⟩
  | 114 => ⟨S_, .f32⟩
  | 115 => ⟨S_, .f32⟩
  | 116 => ⟨S1792x9472, .f32⟩
  | 117 => ⟨S1792x9472, .f32⟩
  | 118 => ⟨S1792x9472, .f32⟩
  | 119 => ⟨S_, .f32⟩
  | 120 => ⟨S_, .f32⟩
  | 121 => ⟨S1792x9472, .f32⟩
  | 122 => ⟨S1792x9472, .f32⟩
  | 123 => ⟨S1792x9472, .f32⟩
  | 124 => ⟨S_, .f32⟩
  | 125 => ⟨S_, .f32⟩
  | 126 => ⟨S1792x9472, .f32⟩
  | 127 => ⟨S1792x9472, .f32⟩
  | _ => ⟨S256x1x3584, .bf16⟩

abbrev hbmTy0_1 (i : Nat) : BufTy := match i % 128 with
  | 0 => ⟨S1792x9472, .f32⟩
  | 1 => ⟨S_, .f32⟩
  | 2 => ⟨S_, .f32⟩
  | 3 => ⟨S1792x9472, .f32⟩
  | 4 => ⟨S1792x9472, .f32⟩
  | 5 => ⟨S1792x9472, .f32⟩
  | 6 => ⟨S_, .f32⟩
  | 7 => ⟨S_, .f32⟩
  | 8 => ⟨S1792x9472, .f32⟩
  | 9 => ⟨S1792x9472, .f32⟩
  | 10 => ⟨S1792x9472, .f32⟩
  | 11 => ⟨S_, .f32⟩
  | 12 => ⟨S_, .f32⟩
  | 13 => ⟨S1792x9472, .f32⟩
  | 14 => ⟨S1792x9472, .f32⟩
  | 15 => ⟨S1792x9472, .f32⟩
  | 16 => ⟨S_, .i32⟩
  | 17 => ⟨S1792x9472, .i32⟩
  | 18 => ⟨S1792x9472, .i32⟩
  | 19 => ⟨S_, .i32⟩
  | 20 => ⟨S1792x9472, .i32⟩
  | 21 => ⟨S1792x9472, .i1⟩
  | 22 => ⟨S1792x9472, .f32⟩
  | 23 => ⟨S1792x9472, .f32⟩
  | 24 => ⟨S1792x9472, .f32⟩
  | 25 => ⟨S1792x9472, .f32⟩
  | 26 => ⟨S_, .i32⟩
  | 27 => ⟨S1792x9472, .i32⟩
  | 28 => ⟨S1792x9472, .i32⟩
  | 29 => ⟨S_, .i32⟩
  | 30 => ⟨S1792x9472, .i32⟩
  | 31 => ⟨S1792x9472, .i1⟩
  | 32 => ⟨S1792x9472, .f32⟩
  | 33 => ⟨S1792x9472, .f32⟩
  | 34 => ⟨S_, .i32⟩
  | 35 => ⟨S1792x9472, .i32⟩
  | 36 => ⟨S1792x9472, .i32⟩
  | 37 => ⟨S_, .i32⟩
  | 38 => ⟨S1792x9472, .i32⟩
  | 39 => ⟨S1792x9472, .i1⟩
  | 40 => ⟨S1792x9472, .f32⟩
  | 41 => ⟨S56x32x9472, .f32⟩
  | 42 => ⟨S56x1x9472, .f32⟩
  | 43 => ⟨S56x32x9472, .f32⟩
  | 44 => ⟨S56x32x9472, .f32⟩
  | 45 => ⟨S1792x9472, .f32⟩
  | 46 => ⟨S1792x9472, .bf16⟩
  | 47 => ⟨S256x1x1792, .bf16⟩
  | 48 => ⟨S256x1x9472, .f32⟩
  | 49 => ⟨S256x1x1792, .bf16⟩
  | 50 => ⟨S256x1x9472, .f32⟩
  | 51 => ⟨S256x1x9472, .f32⟩
  | 52 => ⟨S256x1x9472, .bf16⟩
  | 53 => ⟨S256x9472, .bf16⟩
  | _ => ⟨S256x1x3584, .bf16⟩

abbrev hbmTy (i : Nat) : BufTy := match i / 128 with
  | 0 => hbmTy0_0 i
  | 1 => hbmTy0_1 i
  | _ => ⟨S256x1x3584, .bf16⟩

abbrev bufTy : (tb : Table) → Fin (tcTables nBuf tb) → BufTy
  | .hbm, ⟨i, _⟩ => hbmTy i
  | _, _ => ⟨S256x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_cst_6 : Ref sig .tc := ⟨.hbm, 37, rfl⟩
abbrev main_cst_7 : Ref sig .tc := ⟨.hbm, 38, rfl⟩
abbrev main_call2_v0 : Ref sig .tc := ⟨.hbm, 39, rfl⟩
abbrev main_call2_v1 : Ref sig .tc := ⟨.hbm, 40, rfl⟩
abbrev main_v20 : Ref sig .tc := ⟨.hbm, 41, rfl⟩
abbrev main_cst_8 : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_v21 : Ref sig .tc := ⟨.hbm, 46, rfl⟩
abbrev main_cst_10 : Ref sig .tc := ⟨.hbm, 47, rfl⟩
abbrev main_cst_11 : Ref sig .tc := ⟨.hbm, 48, rfl⟩
abbrev main_call4_v0 : Ref sig .tc := ⟨.hbm, 49, rfl⟩
abbrev main_call4_v1 : Ref sig .tc := ⟨.hbm, 50, rfl⟩
abbrev main_v22 : Ref sig .tc := ⟨.hbm, 51, rfl⟩
abbrev main_cst_12 : Ref sig .tc := ⟨.hbm, 52, rfl⟩
abbrev main_cst_13 : Ref sig .tc := ⟨.hbm, 53, rfl⟩
abbrev main_call5_v0 : Ref sig .tc := ⟨.hbm, 54, rfl⟩
abbrev main_call5_v1 : Ref sig .tc := ⟨.hbm, 55, rfl⟩
abbrev main_v23 : Ref sig .tc := ⟨.hbm, 56, rfl⟩
abbrev main_cst_14 : Ref sig .tc := ⟨.hbm, 57, rfl⟩
abbrev main_cst_15 : Ref sig .tc := ⟨.hbm, 58, rfl⟩
abbrev main_call6_v0 : Ref sig .tc := ⟨.hbm, 59, rfl⟩
abbrev main_call6_v1 : Ref sig .tc := ⟨.hbm, 60, rfl⟩
abbrev main_v24 : Ref sig .tc := ⟨.hbm, 61, rfl⟩
abbrev main_cst_16 : Ref sig .tc := ⟨.hbm, 62, rfl⟩
abbrev main_cst_17 : Ref sig .tc := ⟨.hbm, 63, rfl⟩
abbrev main_call7_v0 : Ref sig .tc := ⟨.hbm, 64, rfl⟩
abbrev main_call7_v1 : Ref sig .tc := ⟨.hbm, 65, rfl⟩
abbrev main_v25 : Ref sig .tc := ⟨.hbm, 66, rfl⟩
abbrev main_c_18 : Ref sig .tc := ⟨.hbm, 67, rfl⟩
abbrev main_v26 : Ref sig .tc := ⟨.hbm, 68, rfl⟩
abbrev main_v27 : Ref sig .tc := ⟨.hbm, 69, rfl⟩
abbrev main_c_19 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_20 : Ref sig .tc := ⟨.hbm, 77, rfl⟩
abbrev main_v34 : Ref sig .tc := ⟨.hbm, 78, rfl⟩
abbrev main_v35 : Ref sig .tc := ⟨.hbm, 79, rfl⟩
abbrev main_c_21 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_22 : Ref sig .tc := ⟨.hbm, 85, rfl⟩
abbrev main_v40 : Ref sig .tc := ⟨.hbm, 86, rfl⟩
abbrev main_v41 : Ref sig .tc := ⟨.hbm, 87, rfl⟩
abbrev main_c_23 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_24 : Ref sig .tc := ⟨.hbm, 98, rfl⟩
abbrev main_v51 : Ref sig .tc := ⟨.hbm, 99, rfl⟩
abbrev main_v52 : Ref sig .tc := ⟨.hbm, 100, rfl⟩
abbrev main_c_25 : Ref sig .tc := ⟨.hbm, 101, rfl⟩
abbrev main_v53 : Ref sig .tc := ⟨.hbm, 102, rfl⟩
abbrev main_v54 : Ref sig .tc := ⟨.hbm, 103, rfl⟩
abbrev main_cst_26 : Ref sig .tc := ⟨.hbm, 104, rfl⟩
abbrev main_cst_27 : Ref sig .tc := ⟨.hbm, 105, rfl⟩
abbrev main_call15_v0 : Ref sig .tc := ⟨.hbm, 106, rfl⟩
abbrev main_call15_v1 : Ref sig .tc := ⟨.hbm, 107, rfl⟩
abbrev main_v55 : Ref sig .tc := ⟨.hbm, 108, rfl⟩
abbrev main_cst_28 : Ref sig .tc := ⟨.hbm, 109, rfl⟩
abbrev main_cst_29 : Ref sig .tc := ⟨.hbm, 110, rfl⟩
abbrev main_call16_v0 : Ref sig .tc := ⟨.hbm, 111, rfl⟩
abbrev main_call16_v1 : Ref sig .tc := ⟨.hbm, 112, rfl⟩
abbrev main_v56 : Ref sig .tc := ⟨.hbm, 113, rfl⟩
abbrev main_cst_30 : Ref sig .tc := ⟨.hbm, 114, rfl⟩
abbrev main_cst_31 : Ref sig .tc := ⟨.hbm, 115, rfl⟩
abbrev main_call17_v0 : Ref sig .tc := ⟨.hbm, 116, rfl⟩
abbrev main_call17_v1 : Ref sig .tc := ⟨.hbm, 117, rfl⟩
abbrev main_v57 : Ref sig .tc := ⟨.hbm, 118, rfl⟩
abbrev main_cst_32 : Ref sig .tc := ⟨.hbm, 119, rfl⟩
abbrev main_cst_33 : Ref sig .tc := ⟨.hbm, 120, rfl⟩
abbrev main_call18_v0 : Ref sig .tc := ⟨.hbm, 121, rfl⟩
abbrev main_call18_v1 : Ref sig .tc := ⟨.hbm, 122, rfl⟩
abbrev main_v58 : Ref sig .tc := ⟨.hbm, 123, rfl⟩
abbrev main_cst_34 : Ref sig .tc := ⟨.hbm, 124, rfl⟩
abbrev main_cst_35 : Ref sig .tc := ⟨.hbm, 125, rfl⟩
abbrev main_call19_v0 : Ref sig .tc := ⟨.hbm, 126, rfl⟩
abbrev main_call19_v1 : Ref sig .tc := ⟨.hbm, 127, rfl⟩
abbrev main_v59 : Ref sig .tc := ⟨.hbm, 128, rfl⟩
abbrev main_cst_36 : Ref sig .tc := ⟨.hbm, 129, rfl⟩
abbrev main_cst_37 : Ref sig .tc := ⟨.hbm, 130, rfl⟩
abbrev main_call20_v0 : Ref sig .tc := ⟨.hbm, 131, rfl⟩
abbrev main_call20_v1 : Ref sig .tc := ⟨.hbm, 132, rfl⟩
abbrev main_v60 : Ref sig .tc := ⟨.hbm, 133, rfl⟩
abbrev main_cst_38 : Ref sig .tc := ⟨.hbm, 134, rfl⟩
abbrev main_cst_39 : Ref sig .tc := ⟨.hbm, 135, rfl⟩
abbrev main_call21_v0 : Ref sig .tc := ⟨.hbm, 136, rfl⟩
abbrev main_call21_v1 : Ref sig .tc := ⟨.hbm, 137, rfl⟩
abbrev main_v61 : Ref sig .tc := ⟨.hbm, 138, rfl⟩
abbrev main_cst_40 : Ref sig .tc := ⟨.hbm, 139, rfl⟩
abbrev main_cst_41 : Ref sig .tc := ⟨.hbm, 140, rfl⟩
abbrev main_call22_v0 : Ref sig .tc := ⟨.hbm, 141, rfl⟩
abbrev main_call22_v1 : Ref sig .tc := ⟨.hbm, 142, rfl⟩
abbrev main_v62 : Ref sig .tc := ⟨.hbm, 143, rfl⟩
abbrev main_c_42 : Ref sig .tc := ⟨.hbm, 144, rfl⟩
abbrev main_v63 : Ref sig .tc := ⟨.hbm, 145, rfl⟩
abbrev main_v64 : Ref sig .tc := ⟨.hbm, 146, rfl⟩
abbrev main_c_43 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_c_44 : Ref sig .tc := ⟨.hbm, 154, rfl⟩
abbrev main_v71 : Ref sig .tc := ⟨.hbm, 155, rfl⟩
abbrev main_v72 : Ref sig .tc := ⟨.hbm, 156, rfl⟩
abbrev main_c_45 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_c_46 : Ref sig .tc := ⟨.hbm, 162, rfl⟩
abbrev main_v77 : Ref sig .tc := ⟨.hbm, 163, rfl⟩
abbrev main_v78 : Ref sig .tc := ⟨.hbm, 164, rfl⟩
abbrev main_c_47 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩

abbrev nD : Nat := 1
abbrev τ : Topo := Topo.v7x

variable {F : FTy → Type} [FloatOps F]
-- ==== Proof.Frames.lean ====
/- The three frames and the `preserves` claim (hand-written). The two programs of the kernel have generated frames; the
   reference's follows from its generated run, and it declares no semaphore. The `preserves` claim is the ledger's nine
   distinct statements in the order in which they first appear. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The printed kernel ends with its arguments unchanged and every counter at zero. -/
theorem frame_p : Cert.quiescent_Kernel := fun m ρ _ => Cert.Kernel.Gen.frame m ρ

/-- So does the kernel as printed for the ideal reading. -/
theorem frame_pi : Cert.quiescent_KernelIdeal := fun m ρ _ => Cert.KernelIdeal.Gen.frame m ρ

/-- And the reference, whose generated run says it. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites between the two programs of the kernel: two word scratches declared as pairs of rows, the packs, and the
    words read as rows at each pair of shapes. -/
theorem preserves : Cert.preserves_Kernel_KernelIdeal :=
  open Cert.KernelIdeal IdealRules.bf16_pair in
  ⟨bufferStatement S128x2x3584 S128x1x3584, bufferStatement S1792x2x256 S1792x1x256, statement S16x128 S8x128,
    packStatement S8x128, statement S8x2x128 S8x1x128, statement S128x2x3584 S128x1x3584, statement S256x3584 S128x3584,
    statement S1792x2x256 S1792x1x256, statement S3584x256 S1792x256⟩

end Cert.Proof

end
-- ==== Proof.Words.lean ====
/- The vectors a trip of the weight loop stores, written once as functions of what it reads (hand-written): the code words of
   a block of weights, the lookup of one code of each word in the two tables, the pair of rows made of two lookups, and
   that the trip's eight stores are exactly these. -/
module

public import Idealize.ShloMosaic.PureOps.Ideal
public import Idealize.ShloMosaic.Init
public import Idealize.ShloMosaic.Lib.Pointwise
public import Idealize.ShloMosaic.Lib.BitcastFour
public import Idealize.ShloMosaic.Lib.Pipeline.FrameBody
public import Idealize.ShloMosaic.Lib.ValueIdx
public import proofs.«01_k».proof.Proof.Gen.KernelIdeal.Loops

@[expose] public section

noncomputable section

open Idealize.ShloMosaic Idealize.SL.Sem Cert.KernelIdeal Cert.KernelIdeal.Gen

namespace Cert.Proof

variable [Cert.KernelIdeal.Facts] {F : FTy → Type} [FloatOps F]

/-- The low nibbles of a block's bytes, each doubled and left in its byte. -/
def loWords (w : Vec F S32x128 .i8) : IVec S8x128 32 :=
  andi (shli (bitcast S8x128 32 w bitcasts_S32x128_w8_S8x128_w32) (broadcast S8x128 1#32)) (broadcast S8x128 505290270#32)

/-- The high nibbles of a block's bytes, each doubled and left in its byte. -/
def hiWords (w : Vec F S32x128 .i8) : IVec S8x128 32 :=
  andi (shrui (bitcast S8x128 32 w bitcasts_S32x128_w8_S8x128_w32) (broadcast S8x128 3#32)) (broadcast S8x128 505290270#32)

/-- The code a word holds at bit `s`. -/
def codeV (idx : IVec S8x128 32) (s : BitVec 32) : IVec S8x128 32 :=
  andi (shrui idx (broadcast S8x128 s)) (broadcast S8x128 15#32)

/-- The table row of that code. -/
def rowV (idx : IVec S8x128 32) (s : BitVec 32) : IVec S8x128 32 :=
  shapeCast S8x128 (shapeCast S8x128x1 (shrui (codeV idx s) (broadcast S8x128 1#32)) shapeCasts_S8x128_S8x128x1)
    shapeCasts_S8x128x1_S8x128

/-- The code's entry: the odd table's row when the code is odd, the even table's otherwise. -/
def lookV (ev od : FVec F S8x128 .f32) (idx : IVec S8x128 32) (s : BitVec 32) : FVec F S8x128 .f32 :=
  select (cmpi .eq (andi (codeV idx s) (broadcast S8x128 1#32)) (broadcast S8x128 1#32))
    (dynamicGather 0 od (rowV idx s)) (dynamicGather 0 ev (rowV idx s))

/-- Two vectors as the two rows of each pair of a packed scratch. -/
def pairV (lo hi : FVec F S8x128 .f32) : FVec F S8x2x128 .bf16 :=
  interleaveRows S8x2x128 (shapeCast S8x1x128 (truncf .bf16 lo) shapeCasts_S8x128_S8x1x128)
    (shapeCast S8x1x128 (truncf .bf16 hi) shapeCasts_S8x128_S8x1x128) bitcasts_S8x2x128_w16_S8x1x128_w32

/-- A table scaled by a block's row of absmax values. -/
def scaledV (t : FVec F S8x128 .f32) (am : Vec F S1x128 .f32) : FVec F S8x128 .f32 :=
  mulf t (broadcastTo S8x128 am broadcasts_S1x128_S8x128)

section Trip

variable (𝒱 : Variants) (c : Dev nD) (bd : Option 𝒱.V) (i : grid0.Coords) (arg1 : Memref sig .tc .smem S1 .f32) (harg1 : arg1.IsWhole) (arg2 : Memref sig .tc .vmem S256x3584 .bf16) (harg2 : arg2.IsWhole) (arg3 : Memref sig .tc .vmem S1792x256 .i8) (harg3 : arg3.IsWhole) (arg4 : Memref sig .tc .vmem S56x256 .i8) (harg4 : arg4.IsWhole) (arg5 : Memref sig .tc .vmem S56x128 .f32) (harg5 : arg5.IsWhole) (arg6 : Memref sig .tc .vmem S256x256 .bf16) (harg6 : arg6.IsWhole) (arg7 : Memref sig .tc .vmem S128x2x3584 .bf16) (harg7 : arg7.IsWhole) (arg8 : Memref sig .tc .vmem S1792x2x256 .bf16) (harg8 : arg8.IsWhole) (arg9 : Memref sig .tc .vmem S56x256 .f32) (harg9 : arg9.IsWhole)

/-- The trip's read of the weights' half `off` of its block. -/
abbrev wAt (X : BufTy.Contents (Elt F) arg3.view.ty) (off : Fin 2 → ℕ) (h : ∀ a, off a + S32x128.size a ≤ S1792x256.size a) : Vec F S32x128 .i8 :=
  View.ld (arg3.view.read (Elt F) X) (Rect.unit (s := S1792x256) off S32x128.size h)

/-- The trip's read of its row of absmax values. -/
abbrev amAt (X : BufTy.Contents (Elt F) arg9.view.ty) (off : Fin 2 → ℕ) (h : ∀ a, off a + S1x128.size a ≤ S56x256.size a) : Vec F S1x128 .f32 :=
  View.ld (arg9.view.read (Elt F) X) (Rect.unit (s := S56x256) off S1x128.size h)

/-- The eight stores of a trip of the weight loop, last first. -/
theorem tripL_k0_t2_eq (v93 v119 : FVec F S8x128 .f32) (v121 : IVec S8x128 1)
    (X3 : BufTy.Contents (Elt F) arg3.view.ty) (X9 : BufTy.Contents (Elt F) arg9.view.ty) (k : Fin k0_t2_loop.trips) :
    tripL_k0_t2 𝒱 c bd i arg1 harg1 arg2 harg2 arg3 harg3 arg4 harg4 arg5 harg5 arg6 harg6 arg7 harg7 arg8 harg8 arg9 harg9 v93 v119 v121 X3 X9 k
      = (let W0 := wAt arg3 X3 (k0_off33 k) (k0_off33_inb k)
         let W1 := wAt arg3 X3 (k0_off36 k) (k0_off36_inb k)
         let E0 := scaledV v93 (amAt arg9 X9 (k0_off34 k) (k0_off34_inb k))
         let E1 := scaledV v93 (amAt arg9 X9 (k0_off37 k) (k0_off37_inb k))
         let O0 := scaledV (k0_pay1 v119 v121) (amAt arg9 X9 (k0_off34 k) (k0_off34_inb k))
         let O1 := scaledV (k0_pay1 v119 v121) (amAt arg9 X9 (k0_off37 k) (k0_off37_inb k))
         [⟨Rect.unit (k0_off38 k 24#32) ![8, 2, 128] (k0_off38_inb k 3), pairV (lookV E1 O1 (hiWords W1) 9#32) (lookV E1 O1 (hiWords W1) 25#32)⟩,
          ⟨Rect.unit (k0_off38 k 16#32) ![8, 2, 128] (k0_off38_inb k 2), pairV (lookV E1 O1 (loWords W1) 9#32) (lookV E1 O1 (loWords W1) 25#32)⟩,
          ⟨Rect.unit (k0_off38 k 8#32) ![8, 2, 128] (k0_off38_inb k 1), pairV (lookV E1 O1 (hiWords W1) 1#32) (lookV E1 O1 (hiWords W1) 17#32)⟩,
          ⟨Rect.unit (k0_off38 k 0#32) ![8, 2, 128] (k0_off38_inb k 0), pairV (lookV E1 O1 (loWords W1) 1#32) (lookV E1 O1 (loWords W1) 17#32)⟩,
          ⟨Rect.unit (k0_off35 k 24#32) ![8, 2, 128] (k0_off35_inb k 3), pairV (lookV E0 O0 (hiWords W0) 9#32) (lookV E0 O0 (hiWords W0) 25#32)⟩,
          ⟨Rect.unit (k0_off35 k 16#32) ![8, 2, 128] (k0_off35_inb k 2), pairV (lookV E0 O0 (loWords W0) 9#32) (lookV E0 O0 (loWords W0) 25#32)⟩,
          ⟨Rect.unit (k0_off35 k 8#32) ![8, 2, 128] (k0_off35_inb k 1), pairV (lookV E0 O0 (hiWords W0) 1#32) (lookV E0 O0 (hiWords W0) 17#32)⟩,
          ⟨Rect.unit (k0_off35 k 0#32) ![8, 2, 128] (k0_off35_inb k 0), pairV (lookV E0 O0 (loWords W0) 1#32) (lookV E0 O0 (loWords W0) 17#32)⟩]) := by
  unfold tripL_k0_t2 trip_k0_t2
  rfl

end Trip

end Cert.Proof

end
-- ==== Proof.Levels.lean ====
/- The sixteen levels and the codes that choose them (hand-written): the four bits a byte holds at each parity, the two
   eight-row tables the kernel builds read as the levels of the even and of the odd codes, and one lookup read as the
   level of its code times the block's absmax value. -/
module

public import proofs.«01_k».proof.Proof.Words

@[expose] public section

noncomputable section

open Idealize.ShloMosaic Idealize.SL.Sem Cert.KernelIdeal Cert.KernelIdeal.Gen

namespace Cert.Proof

variable [Cert.KernelIdeal.Facts]

/-- The four bits of a byte that field `p` holds: the low ones for `0`, the high ones for `1`. -/
def nib (p : ℕ) (b : BitVec 8) : BitVec 4 := b.extractLsb' (4 * p) 4

/-- The f32 words of the sixteen levels, by code. -/
def nfBits : Fin 16 → BitVec 32 :=
  ![3212836864#32, 3207739825#32, 3204868912#32, 3200922272#32, 3197215309#32, 3191682367#32, 3183114353#32, 0#32,
    1034091263#32, 1042598627#32, 1048315101#32, 1051525946#32, 1054975160#32, 1058015147#32, 1060705203#32, 1065353216#32]

/-- The level of a code. -/
def lev (c : BitVec 4) : Ideal .f32 := Ideal.ofBits .f32 (nfBits c.toFin)

/-- The table of the even codes' levels, as the kernel builds it. -/
def evenT : FVec Ideal S8x128 .f32 := k0_pay114 (iota .tc S8x128 32 [0] iota_S8x128_d0_w32) (k0_pay113 (F := Ideal))

/-- The table of the odd codes' levels, as the kernel builds it. -/
def oddT : FVec Ideal S8x128 .f32 := k0_pay1 (k0_pay115 (F := Ideal)) k0_pay116

/-- Row `r` of the even table is the level of code `2r`. -/
theorem evenT_apply (r : Fin 8) (l : Fin 128) : evenT (ix2 r l) = lev (BitVec.ofNat 4 (2 * r.val)) := by
  pointwise [evenT, k0_pay114, k0_pay113]
  fin_cases r <;> rfl

/-- Row `r` of the odd table is the level of code `2r + 1`. -/
theorem oddT_apply (r : Fin 8) (l : Fin 128) : oddT (ix2 r l) = lev (BitVec.ofNat 4 (2 * r.val + 1)) := by
  pointwise [oddT, k0_pay1, k0_pay115, k0_pay116]
  fin_cases r <;> first | rfl | exact Ideal.ofBits_zero_f32.symm | exact Ideal.ofBits_one_f32.symm

/-- A bit of an and, of a shift left and of a shift right, by the machine's operations. -/
theorem bit_andi (x y : BitVec 32) (i : ℕ) : (IntOp.andi x y).getLsbD i = (x.getLsbD i && y.getLsbD i) := by
  simp [IntOp.andi]

theorem bit_shrui (u : ArithUnit) (x : BitVec 32) (s i : ℕ) (hs : s < 32) :
    (IntOp.shrui u x (BitVec.ofNat 32 s)).getLsbD i = x.getLsbD (s + i) := by
  have h : (BitVec.ofNat 32 s).toNat = s := by simp; omega
  simp [IntOp.shrui, h, hs]

theorem bit_shli_one (u : ArithUnit) (x : BitVec 32) (i : ℕ) (hi : i + 1 < 32) :
    (IntOp.shli u x 1#32).getLsbD (i + 1) = x.getLsbD i := by
  simp [IntOp.shli, hi, BitVec.getLsbD_eq_getElem (show i < 32 by omega)]

theorem mask_bits : ∀ k i : Fin 4, (505290270#32).getLsbD (8 * k.val + 1 + i.val) = true := by decide

theorem low_bits (i : ℕ) (hi : i < 32) : (15#32).getLsbD i = decide (i < 4) := by
  interval_cases i <;> rfl

/-- Bit `n` of a word of the block is bit `n % 8` of the byte in the word's row `n / 8`. -/
theorem bits_of_word (w : Vec Ideal S32x128 .i8) (q : Fin 8) (l : Fin 128) (n : ℕ) (hn : n < 32) (k : Fin 4) (hk : n / 8 = k.val) :
    (bitcast S8x128 32 w bitcasts_S32x128_w8_S8x128_w32 (ix2 q l)).getLsbD n
      = (w (ix2 ⟨4 * q.val + k.val, by omega⟩ l)).getLsbD (n % 8) :=
  bitcast_8_32_getLsbD_ix2 (R := 32) (r := 8) (n := 128) w bitcasts_S32x128_w8_S8x128_w32 q l n hn ⟨4 * q.val + k.val, by omega⟩
    (by show 4 * q.val + k.val = 4 * q.val + n / 8; omega)

/-- The word of four bytes, doubled, masked, shifted to byte `k` and cut to four bits is byte `k`'s low field. -/
theorem code_lo (w : Vec Ideal S32x128 .i8) (q : Fin 8) (l : Fin 128) (k : Fin 4) :
    codeV (loWords w) (BitVec.ofNat 32 (8 * k.val + 1)) (ix2 q l)
      = (nib 0 (w (ix2 ⟨4 * q.val + k.val, by omega⟩ l))).setWidth 32 := by
  apply BitVec.eq_of_getLsbD_eq
  intro i hi
  pointwise [codeV, loWords]
  rw [bit_andi, low_bits i hi]
  by_cases h4 : i < 4
  · rw [bit_shrui _ _ _ _ (by omega), bit_andi, mask_bits k ⟨i, h4⟩,
      show 8 * k.val + 1 + i = (8 * k.val + i) + 1 by omega, bit_shli_one _ _ _ (by omega)]
    rw [bits_of_word w q l (8 * k.val + i) (by omega) k (by omega)]
    have e : (8 * k.val + i) % 8 = i := by omega
    simp [nib, e, h4, hi]
  · simp [nib, h4]

/-- The word of four bytes, shifted down by three, masked, shifted to byte `k` and cut to four bits is byte `k`'s high field. -/
theorem code_hi (w : Vec Ideal S32x128 .i8) (q : Fin 8) (l : Fin 128) (k : Fin 4) :
    codeV (hiWords w) (BitVec.ofNat 32 (8 * k.val + 1)) (ix2 q l)
      = (nib 1 (w (ix2 ⟨4 * q.val + k.val, by omega⟩ l))).setWidth 32 := by
  apply BitVec.eq_of_getLsbD_eq
  intro i hi
  pointwise [codeV, hiWords]
  rw [bit_andi, low_bits i hi]
  by_cases h4 : i < 4
  · rw [bit_shrui _ _ _ _ (by omega), bit_andi, mask_bits k ⟨i, h4⟩, bit_shrui _ _ 3 _ (by omega)]
    rw [bits_of_word w q l (3 + (8 * k.val + 1 + i)) (by omega) k (by omega)]
    have e : (3 + (8 * k.val + 1 + i)) % 8 = 4 + i := by omega
    simp [nib, e, h4, hi]
  · simp [nib, h4]

/-- The lookup of a code in the two tables scaled by a row of absmax values is the code's level times the absmax value. -/
theorem lookV_scaled (am : Vec Ideal S1x128 .f32) (idx : IVec S8x128 32) (s : BitVec 32) (q : Fin 8) (l : Fin 128) (c : BitVec 4)
    (h : codeV idx s (ix2 q l) = c.setWidth 32) :
    lookV (scaledV evenT am) (scaledV oddT am) idx s (ix2 q l) = (lev c * am (ix2 0 l) : EReal) := by
  have hc : IntOp.andi (IntOp.shrui .vector (idx (ix2 q l)) s) 15#32 = c.setWidth 32 := by
    rw [← h]; pointwise [codeV]
  pointwise [lookV, rowV, codeV, scaledV]
  simp only [evenT_apply, oddT_apply, hc]
  obtain ⟨n, hn, rfl⟩ : ∃ n, n < 16 ∧ c = BitVec.ofNat 4 n := ⟨c.toNat, c.isLt, by simp⟩
  clear h hc
  interval_cases n <;> simp [Scalar.select, IntOp.cmpi, IntOp.andi, IntOp.shrui]

end Cert.Proof

end
-- ==== Proof.Blocks.lean ====
/- What the weight scratch holds after the loop over the blocks (hand-written): every store of a trip is a part of ONE
   array, each entry the level of one code times the absmax value of the code's block and column. -/
module

public import proofs.«01_k».proof.Proof.Levels
public import Idealize.ShloMosaic.Lib.Pipeline.ReadBack
public import Idealize.ShloMosaic.Lib.Ring

@[expose] public section

noncomputable section

open Idealize.ShloMosaic Idealize.SL.Sem Cert.KernelIdeal Cert.KernelIdeal.Gen

namespace Cert.Proof

variable [Cert.KernelIdeal.Facts]

/-- The row of packed weights whose code sits at row `h` of pair `R` of the weight scratch. -/
def wdRow (R h : ℕ) : ℕ := 32 * (R / 32) + 4 * (R % 8) + 2 * h + R / 16 % 2

theorem wdRow_lt (R : Fin 1792) (h : Fin 2) : wdRow R.val h.val < 1792 := by unfold wdRow; omega

/-- The entry at row `h` of pair `R`, column `n`: its code's level times its block's absmax value. -/
def wdAt (W : Vec Ideal S1792x256 .i8) (AM : Vec Ideal S56x256 .f32) (R : Fin 1792) (h : Fin 2) (n : Fin 256) : EReal :=
  lev (nib (R.val / 8 % 2) (W (ix2 ⟨wdRow R.val h.val, wdRow_lt R h⟩ n))) * AM (ix2 ⟨R.val / 32, by omega⟩ n)

/-- The weight scratch's contents after the loop. -/
def G8 (W : Vec Ideal S1792x256 .i8) (AM : Vec Ideal S56x256 .f32) : S1792x2x256.Idx → EReal :=
  fun j => wdAt W AM (j 0) (j 1) (j 2)

/-- A pair of vectors, read at an index. -/
theorem pairV_apply (lo hi : FVec Ideal S8x128 .f32) (q : Fin 8) (h : Fin 2) (l : Fin 128) :
    pairV lo hi (ix3 q h l) = if h.val % 2 = 0 then lo (ix2 q l) else hi (ix2 q l) := by
  pointwise [pairV]

/-- One store of a trip is the part of the array its rectangle names: group `g` of block `b`, columns from `cc`. -/
theorem piece_val (W : Vec Ideal S1792x256 .i8) (AM : Vec Ideal S56x256 .f32) (b cc g : ℕ) (hb : b < 56) (hcc : cc + 128 ≤ 256)
    (hg : g < 4) (w : Vec Ideal S32x128 .i8)
    (hw : ∀ (r : Fin 32) (l : Fin 128), w (ix2 r l) = W (ix2 ⟨32 * b + r.val, by omega⟩ ⟨cc + l.val, by omega⟩))
    (am : Vec Ideal S1x128 .f32) (ham : ∀ l : Fin 128, am (ix2 0 l) = AM (ix2 ⟨b, hb⟩ ⟨cc + l.val, by omega⟩))
    (idx : IVec S8x128 32)
    (hidx : ∀ (q : Fin 8) (l : Fin 128) (k : Fin 4), codeV idx (BitVec.ofNat 32 (8 * k.val + 1)) (ix2 q l)
      = (nib (g % 2) (w (ix2 ⟨4 * q.val + k.val, by omega⟩ l))).setWidth 32)
    (s1 s2 : BitVec 32) (hs1 : s1 = BitVec.ofNat 32 (8 * (g / 2) + 1)) (hs2 : s2 = BitVec.ofNat 32 (8 * (g / 2 + 2) + 1))
    (off : Fin 3 → ℕ) (h : ∀ a, off a + ![8, 2, 128] a ≤ S1792x2x256.size a) (hoff : off = ![32 * b + 8 * g, 0, cc])
    (x : S8x2x128.Idx) :
    pairV (lookV (scaledV evenT am) (scaledV oddT am) idx s1) (lookV (scaledV evenT am) (scaledV oddT am) idx s2) x
      = G8 W AM ((Rect.unit (s := S1792x2x256) off ![8, 2, 128] h).emb x) := by
  subst hs1 hs2 hoff
  obtain ⟨q, hh, l, rfl⟩ : ∃ (q : Fin 8) (hh : Fin 2) (l : Fin 128), x = ix3 q hh l := ⟨x 0, x 1, x 2, eq_ix3 x⟩
  rw [pairV_apply]
  have key : ∀ k : Fin 4, k.val = g / 2 + 2 * hh.val →
      lookV (scaledV evenT am) (scaledV oddT am) idx (BitVec.ofNat 32 (8 * k.val + 1)) (ix2 q l)
        = G8 W AM ((Rect.unit (s := S1792x2x256) ![32 * b + 8 * g, 0, cc] ![8, 2, 128] h).emb (ix3 q hh l)) := by
    intro k hk
    have e : (Rect.unit (s := S1792x2x256) ![32 * b + 8 * g, 0, cc] ![8, 2, 128] h).emb (ix3 q hh l)
        = ix3 (⟨32 * b + 8 * g + q.val, by omega⟩ : Fin 1792) hh (⟨cc + l.val, by omega⟩ : Fin 256) := by
      funext a
      fin_cases a <;> apply Fin.ext <;> simp [Rect.emb_apply, ix3]
    rw [lookV_scaled am idx _ q l _ (hidx q l k), hw, ham, e]
    unfold G8 wdAt
    simp only [ix3_0, ix3_1, ix3_2]
    congr 3
    · omega
    · congr 2
      apply Fin.ext
      unfold wdRow
      show 32 * b + (4 * q.val + k.val) = _
      dsimp only
      omega
    · apply Fin.ext
      show b = _
      dsimp only
      omega
  by_cases hc : hh.val % 2 = 0
  · rw [if_pos hc]
    exact key ⟨g / 2, by omega⟩ (by show g / 2 = _; omega)
  · rw [if_neg hc]
    exact key ⟨g / 2 + 2, by omega⟩ (by show g / 2 + 2 = _; omega)

section Loop

variable (𝒱 : Variants) (c : Dev nD) (bd : Option 𝒱.V) (i : grid0.Coords) (arg1 : Memref sig .tc .smem S1 .f32) (harg1 : arg1.IsWhole) (arg2 : Memref sig .tc .vmem S256x3584 .bf16) (harg2 : arg2.IsWhole) (arg3 : Memref sig .tc .vmem S1792x256 .i8) (harg3 : arg3.IsWhole) (arg4 : Memref sig .tc .vmem S56x256 .i8) (harg4 : arg4.IsWhole) (arg5 : Memref sig .tc .vmem S56x128 .f32) (harg5 : arg5.IsWhole) (arg6 : Memref sig .tc .vmem S256x256 .bf16) (harg6 : arg6.IsWhole) (arg7 : Memref sig .tc .vmem S128x2x3584 .bf16) (harg7 : arg7.IsWhole) (arg8 : Memref sig .tc .vmem S1792x2x256 .bf16) (harg8 : arg8.IsWhole) (arg9 : Memref sig .tc .vmem S56x256 .f32) (harg9 : arg9.IsWhole)

omit [Cert.KernelIdeal.Facts] in
/-- The trip's read of the weights, at an index. -/
theorem wAt_apply (X : BufTy.Contents (Elt Ideal) arg3.view.ty) (b cc : ℕ) (hb : b < 56) (hcc : cc + 128 ≤ 256) (off : Fin 2 → ℕ)
    (h : ∀ a, off a + S32x128.size a ≤ S1792x256.size a) (hoff : off = ![32 * b, cc]) (r : Fin 32) (l : Fin 128) :
    wAt arg3 X off h (ix2 r l) = arg3.view.read (Elt Ideal) X (ix2 ⟨32 * b + r.val, by omega⟩ ⟨cc + l.val, by omega⟩) := by
  subst hoff
  show arg3.view.read (Elt Ideal) X _ = _
  congr 1
  funext a
  fin_cases a <;> apply Fin.ext <;> simp [Rect.emb_apply, ix2, LoadRect.idx]

omit [Cert.KernelIdeal.Facts] in
/-- The trip's read of its row of absmax values, at an index. -/
theorem amAt_apply (X : BufTy.Contents (Elt Ideal) arg9.view.ty) (b cc : ℕ) (hb : b < 56) (hcc : cc + 128 ≤ 256) (off : Fin 2 → ℕ)
    (h : ∀ a, off a + S1x128.size a ≤ S56x256.size a) (hoff : off = ![b, cc]) (l : Fin 128) :
    amAt arg9 X off h (ix2 0 l) = arg9.view.read (Elt Ideal) X (ix2 ⟨b, hb⟩ ⟨cc + l.val, by omega⟩) := by
  subst hoff
  show arg9.view.read (Elt Ideal) X _ = _
  congr 1
  funext a
  fin_cases a <;> apply Fin.ext <;> simp [Rect.emb_apply, ix2, LoadRect.idx]

/-- The loop's stores after all its trips. -/
abbrev wdPieces (X3 : BufTy.Contents (Elt Ideal) arg3.view.ty) (X9 : BufTy.Contents (Elt Ideal) arg9.view.ty) (n : ℕ) :=
  pb_k0_t2 (F := Ideal) 𝒱 c bd i arg1 harg1 arg2 harg2 arg3 harg3 arg4 harg4 arg5 harg5 arg6 harg6 arg7 harg7 arg8 harg8 arg9 harg9 evenT (k0_pay115 (F := Ideal)) k0_pay116 X3 X9 n

/-- The eight stores of trip `k` are parts of the array. -/
theorem trip_piecesOf (X3 : BufTy.Contents (Elt Ideal) arg3.view.ty) (X9 : BufTy.Contents (Elt Ideal) arg9.view.ty) (k : Fin k0_t2_loop.trips) :
    View.PiecesOf (G8 (arg3.view.read (Elt Ideal) X3) (arg9.view.read (Elt Ideal) X9))
      (tripL_k0_t2 𝒱 c bd i arg1 harg1 arg2 harg2 arg3 harg3 arg4 harg4 arg5 harg5 arg6 harg6 arg7 harg7 arg8 harg8 arg9 harg9 evenT (k0_pay115 (F := Ideal)) k0_pay116 X3 X9 k) := by
  have hk : k.val < 56 := lt_of_lt_of_le k.isLt k0_t2_abs.2.1
  rw [tripL_k0_t2_eq]
  exact ⟨piece_val (arg3.view.read (Elt Ideal) X3) (arg9.view.read (Elt Ideal) X9) k.val 128 3 hk (by omega) (by omega) _
      (wAt_apply arg3 X3 k.val 128 hk (by omega) _ (k0_off36_inb k) (k0_off36_eq k)) _
      (amAt_apply arg9 X9 k.val 128 hk (by omega) _ (k0_off37_inb k) (k0_off37_eq k)) _ (code_hi _) _ _ rfl rfl _
      (k0_off38_inb k 3) (k0_off38_eq k 3),
    piece_val (arg3.view.read (Elt Ideal) X3) (arg9.view.read (Elt Ideal) X9) k.val 128 2 hk (by omega) (by omega) _
      (wAt_apply arg3 X3 k.val 128 hk (by omega) _ (k0_off36_inb k) (k0_off36_eq k)) _
      (amAt_apply arg9 X9 k.val 128 hk (by omega) _ (k0_off37_inb k) (k0_off37_eq k)) _ (code_lo _) _ _ rfl rfl _
      (k0_off38_inb k 2) (k0_off38_eq k 2),
    piece_val (arg3.view.read (Elt Ideal) X3) (arg9.view.read (Elt Ideal) X9) k.val 128 1 hk (by omega) (by omega) _
      (wAt_apply arg3 X3 k.val 128 hk (by omega) _ (k0_off36_inb k) (k0_off36_eq k)) _
      (amAt_apply arg9 X9 k.val 128 hk (by omega) _ (k0_off37_inb k) (k0_off37_eq k)) _ (code_hi _) _ _ rfl rfl _
      (k0_off38_inb k 1) (k0_off38_eq k 1),
    piece_val (arg3.view.read (Elt Ideal) X3) (arg9.view.read (Elt Ideal) X9) k.val 128 0 hk (by omega) (by omega) _
      (wAt_apply arg3 X3 k.val 128 hk (by omega) _ (k0_off36_inb k) (k0_off36_eq k)) _
      (amAt_apply arg9 X9 k.val 128 hk (by omega) _ (k0_off37_inb k) (k0_off37_eq k)) _ (code_lo _) _ _ rfl rfl _
      (k0_off38_inb k 0) (k0_off38_eq k 0),
    piece_val (arg3.view.read (Elt Ideal) X3) (arg9.view.read (Elt Ideal) X9) k.val 0 3 hk (by omega) (by omega) _
      (wAt_apply arg3 X3 k.val 0 hk (by omega) _ (k0_off33_inb k) (k0_off33_eq k)) _
      (amAt_apply arg9 X9 k.val 0 hk (by omega) _ (k0_off34_inb k) (k0_off34_eq k)) _ (code_hi _) _ _ rfl rfl _
      (k0_off35_inb k 3) (k0_off35_eq k 3),
    piece_val (arg3.view.read (Elt Ideal) X3) (arg9.view.read (Elt Ideal) X9) k.val 0 2 hk (by omega) (by omega) _
      (wAt_apply arg3 X3 k.val 0 hk (by omega) _ (k0_off33_inb k) (k0_off33_eq k)) _
      (amAt_apply arg9 X9 k.val 0 hk (by omega) _ (k0_off34_inb k) (k0_off34_eq k)) _ (code_lo _) _ _ rfl rfl _
      (k0_off35_inb k 2) (k0_off35_eq k 2),
    piece_val (arg3.view.read (Elt Ideal) X3) (arg9.view.read (Elt Ideal) X9) k.val 0 1 hk (by omega) (by omega) _
      (wAt_apply arg3 X3 k.val 0 hk (by omega) _ (k0_off33_inb k) (k0_off33_eq k)) _
      (amAt_apply arg9 X9 k.val 0 hk (by omega) _ (k0_off34_inb k) (k0_off34_eq k)) _ (code_hi _) _ _ rfl rfl _
      (k0_off35_inb k 1) (k0_off35_eq k 1),
    piece_val (arg3.view.read (Elt Ideal) X3) (arg9.view.read (Elt Ideal) X9) k.val 0 0 hk (by omega) (by omega) _
      (wAt_apply arg3 X3 k.val 0 hk (by omega) _ (k0_off33_inb k) (k0_off33_eq k)) _
      (amAt_apply arg9 X9 k.val 0 hk (by omega) _ (k0_off34_inb k) (k0_off34_eq k)) _ (code_lo _) _ _ rfl rfl _
      (k0_off35_inb k 0) (k0_off35_eq k 0), trivial⟩

/-- So are the stores of the first `n` trips. -/
theorem wd_pieces (X3 : BufTy.Contents (Elt Ideal) arg3.view.ty) (X9 : BufTy.Contents (Elt Ideal) arg9.view.ty) :
    ∀ n : ℕ, n ≤ k0_t2_loop.trips → ∀ p ∈ wdPieces 𝒱 c bd i arg1 harg1 arg2 harg2 arg3 harg3 arg4 harg4 arg5 harg5 arg6 harg6 arg7 harg7 arg8 harg8 arg9 harg9 X3 X9 n, ∀ x : p.1.shape.Idx,
      p.2 x = G8 (arg3.view.read (Elt Ideal) X3) (arg9.view.read (Elt Ideal) X9) (p.1.emb x)
  | 0, _, p, hp, _ => by
    unfold wdPieces at hp
    rw [pb_k0_t2.eq_1] at hp
    exact absurd hp List.not_mem_nil
  | n + 1, hn, p, hp, x => by
    have e := pb_k0_t2_succ (F := Ideal) 𝒱 c bd i arg1 harg1 arg2 harg2 arg3 harg3 arg4 harg4 arg5 harg5 arg6 harg6 arg7 harg7 arg8 harg8 arg9 harg9 evenT (k0_pay115 (F := Ideal)) k0_pay116 X3 X9 ⟨n, hn⟩
    unfold wdPieces at hp
    rw [e] at hp
    rcases List.mem_append.mp hp with hp | hp
    · exact (trip_piecesOf 𝒱 c bd i arg1 harg1 arg2 harg2 arg3 harg3 arg4 harg4 arg5 harg5 arg6 harg6 arg7 harg7 arg8 harg8 arg9 harg9 X3 X9 ⟨n, hn⟩).mem p hp x
    · exact wd_pieces X3 X9 n (by omega) p hp x

/-- After the loop the weight scratch holds the array. -/
theorem wd_canon (X3 : BufTy.Contents (Elt Ideal) arg3.view.ty) (X9 : BufTy.Contents (Elt Ideal) arg9.view.ty) (y : S1792x2x256.Idx) :
    View.canon (wdPieces 𝒱 c bd i arg1 harg1 arg2 harg2 arg3 harg3 arg4 harg4 arg5 harg5 arg6 harg6 arg7 harg7 arg8 harg8 arg9 harg9 X3 X9 (Scf.trips k0_t2_loop.lb k0_t2_loop.ub k0_t2_loop.st)) y
      = G8 (arg3.view.read (Elt Ideal) X3) (arg9.view.read (Elt Ideal) X9) y :=
  View.canon_apply_of_pieces _ _ (wd_pieces 𝒱 c bd i arg1 harg1 arg2 harg2 arg3 harg3 arg4 harg4 arg5 harg5 arg6 harg6 arg7 harg7 arg8 harg8 arg9 harg9 X3 X9 _ le_rfl) y
    (View.cover_of_tiledL (wdPieces 𝒱 c bd i arg1 harg1 arg2 harg2 arg3 harg3 arg4 harg4 arg5 harg5 arg6 harg6 arg7 harg7 arg8 harg8 arg9 harg9 X3 X9 (Scf.trips k0_t2_loop.lb k0_t2_loop.ub k0_t2_loop.st)) S8x2x128.size (by sl_kernel_rfl) y)

end Loop

end Cert.Proof

end
-- ==== Proof.Am.lean ====
/- The absmax values a point works with (hand-written): what its two stores leave in the absmax scratch is, at a block and
   a column, the column's code times the block's scale for this point's group of columns, plus the offset. -/
module

public import proofs.«01_k».proof.Proof.Blocks
public import Idealize.ShloMosaic.Lib.Pipeline.ValueKit.Acc

@[expose] public section

noncomputable section

open Idealize.ShloMosaic Idealize.SL.Sem Cert.KernelIdeal Cert.KernelIdeal.Gen

namespace Cert.Proof

variable [Cert.KernelIdeal.Facts]

/-- The lane of the padded scales that point `i` reads. -/
def laneOf (i : grid0.Coords) : Fin 128 := ⟨(BitVec.ofNat 32 (i 0).val).toNat % 128, Nat.mod_lt _ (by omega)⟩

/-- The absmax value of a block and a column of point `i`. -/
def amV (i : grid0.Coords) (x0 : Vec Ideal S1 .f32) (x3 : Vec Ideal S56x256 .i8) (x4 : Vec Ideal S56x128 .f32) :
    S56x256.Idx → EReal :=
  fun j => (FloatOps.sitofp (F := Ideal) FTy.f32 (x3 j) : EReal) * x4 (ix2 (j 0) (laneOf i)) + x0 (ix1 0)

omit [Cert.KernelIdeal.Facts] in
/-- Eight rows of the scales, at an index. -/
theorem ld_rows (x4 : Vec Ideal S56x128 .f32) (o : ℕ) (ho : o + 8 ≤ 56) (h : ∀ a, ![o, 0] a + ![8, 128] a ≤ S56x128.size a) (q : Fin 8) (l : Fin 128) :
    View.ld x4 (Rect.unit (s := S56x128) ![o, 0] ![8, 128] h) (ix2 q l) = x4 (ix2 ⟨o + q.val, by omega⟩ l) := by
  show x4 _ = _
  congr 1
  funext a
  fin_cases a <;> apply Fin.ext <;> simp [ix2, LoadRect.idx]

theorem pay103_apply (i : grid0.Coords) (a : Vec Ideal S8x128 .f32) (q : Fin 8) (l : Fin 128) :
    k0_pay103 (F := Ideal) i a (ix2 q l) = a (ix2 q (laneOf i)) := by
  pointwise [k0_pay103, k0_pay102, laneOf]

theorem pay104_apply (i : grid0.Coords) (a : Vec Ideal S8x128 .f32) (q : Fin 8) (l : Fin 128) :
    k0_pay104 (F := Ideal) i a (ix2 q l) = a (ix2 q (laneOf i)) := by
  pointwise [k0_pay104, k0_pay102, laneOf]

theorem pay105_apply (i : grid0.Coords) (a : Vec Ideal S8x128 .f32) (q : Fin 8) (l : Fin 128) :
    k0_pay105 (F := Ideal) i a (ix2 q l) = a (ix2 q (laneOf i)) := by
  pointwise [k0_pay105, k0_pay102, laneOf]

theorem pay106_apply (i : grid0.Coords) (a : Vec Ideal S8x128 .f32) (q : Fin 8) (l : Fin 128) :
    k0_pay106 (F := Ideal) i a (ix2 q l) = a (ix2 q (laneOf i)) := by
  pointwise [k0_pay106, k0_pay102, laneOf]

theorem pay107_apply (i : grid0.Coords) (a : Vec Ideal S8x128 .f32) (q : Fin 8) (l : Fin 128) :
    k0_pay107 (F := Ideal) i a (ix2 q l) = a (ix2 q (laneOf i)) := by
  pointwise [k0_pay107, k0_pay102, laneOf]

theorem pay108_apply (i : grid0.Coords) (a : Vec Ideal S8x128 .f32) (q : Fin 8) (l : Fin 128) :
    k0_pay108 (F := Ideal) i a (ix2 q l) = a (ix2 q (laneOf i)) := by
  pointwise [k0_pay108, k0_pay102, laneOf]

/-- The scales of point `i`, the seven slices joined. -/
theorem scales_apply (i : grid0.Coords) (x4 : Vec Ideal S56x128 .f32) (b : Fin 56) (l : Fin 128) :
    k0_pay110 (F := Ideal) (k0_pay102 i) (k0_pay103 i (View.ld x4 (Rect.unit (s := S56x128) ![0, 0] ![8, 128] inb_S56x128_S8x128_0_0))) (k0_pay104 i (View.ld x4 (Rect.unit (s := S56x128) ![8, 0] ![8, 128] inb_S56x128_S8x128_8_0))) (k0_pay105 i (View.ld x4 (Rect.unit (s := S56x128) ![16, 0] ![8, 128] inb_S56x128_S8x128_16_0))) (k0_pay106 i (View.ld x4 (Rect.unit (s := S56x128) ![24, 0] ![8, 128] inb_S56x128_S8x128_24_0))) (k0_pay107 i (View.ld x4 (Rect.unit (s := S56x128) ![32, 0] ![8, 128] inb_S56x128_S8x128_32_0))) (k0_pay108 i (View.ld x4 (Rect.unit (s := S56x128) ![40, 0] ![8, 128] inb_S56x128_S8x128_40_0))) (k0_pay109 (View.ld x4 (Rect.unit (s := S56x128) ![48, 0] ![8, 128] inb_S56x128_S8x128_48_0))) (ix2 b l) = x4 (ix2 b (laneOf i)) := by
  pointwise [k0_pay110, k0_pay102, k0_pay109]
  split_ifs <;> first
    | omega
    | exact (pay103_apply i _ _ l).trans ((ld_rows x4 0 (by omega) _ _ _).trans (congrArg x4 (congrArg₂ ix2 (Fin.ext (by dsimp only; omega)) rfl)))
    | exact (pay104_apply i _ _ l).trans ((ld_rows x4 8 (by omega) _ _ _).trans (congrArg x4 (congrArg₂ ix2 (Fin.ext (by dsimp only; omega)) rfl)))
    | exact (pay105_apply i _ _ l).trans ((ld_rows x4 16 (by omega) _ _ _).trans (congrArg x4 (congrArg₂ ix2 (Fin.ext (by dsimp only; omega)) rfl)))
    | exact (pay106_apply i _ _ l).trans ((ld_rows x4 24 (by omega) _ _ _).trans (congrArg x4 (congrArg₂ ix2 (Fin.ext (by dsimp only; omega)) rfl)))
    | exact (pay107_apply i _ _ l).trans ((ld_rows x4 32 (by omega) _ _ _).trans (congrArg x4 (congrArg₂ ix2 (Fin.ext (by dsimp only; omega)) rfl)))
    | exact (pay108_apply i _ _ l).trans ((ld_rows x4 40 (by omega) _ _ _).trans (congrArg x4 (congrArg₂ ix2 (Fin.ext (by dsimp only; omega)) rfl)))
    | exact congrArg x4 (congrArg₂ ix2 (Fin.ext (by dsimp only; omega)) rfl)

variable (i : grid0.Coords) (x0 : Vec Ideal S1 .f32) (x3 : Vec Ideal S56x256 .i8) (x4 : Vec Ideal S56x128 .f32)

/-- The first store's vector. -/
abbrev amLo : FVec Ideal S56x128 .f32 := k0_pay111 (F := Ideal) (k0_pay102 i) (k0_pay103 i (View.ld x4 (Rect.unit (s := S56x128) ![0, 0] ![8, 128] inb_S56x128_S8x128_0_0))) (k0_pay104 i (View.ld x4 (Rect.unit (s := S56x128) ![8, 0] ![8, 128] inb_S56x128_S8x128_8_0))) (k0_pay105 i (View.ld x4 (Rect.unit (s := S56x128) ![16, 0] ![8, 128] inb_S56x128_S8x128_16_0))) (k0_pay106 i (View.ld x4 (Rect.unit (s := S56x128) ![24, 0] ![8, 128] inb_S56x128_S8x128_24_0))) (k0_pay107 i (View.ld x4 (Rect.unit (s := S56x128) ![32, 0] ![8, 128] inb_S56x128_S8x128_32_0))) (k0_pay108 i (View.ld x4 (Rect.unit (s := S56x128) ![40, 0] ![8, 128] inb_S56x128_S8x128_40_0))) (k0_pay109 (View.ld x4 (Rect.unit (s := S56x128) ![48, 0] ![8, 128] inb_S56x128_S8x128_48_0)))
      (View.ld x0 (Rect.unit (s := S1) ![0] ![1] inb_S1_S1_0) (Shape.Idx.first (by decide)))
      (View.ld x3 (Rect.unit (s := S56x256) ![0, 0] ![56, 128] inb_S56x256_S56x128_0_0))

/-- The second store's vector. -/
abbrev amHi : FVec Ideal S56x128 .f32 := k0_pay112 (F := Ideal) (k0_pay102 i) (k0_pay103 i (View.ld x4 (Rect.unit (s := S56x128) ![0, 0] ![8, 128] inb_S56x128_S8x128_0_0))) (k0_pay104 i (View.ld x4 (Rect.unit (s := S56x128) ![8, 0] ![8, 128] inb_S56x128_S8x128_8_0))) (k0_pay105 i (View.ld x4 (Rect.unit (s := S56x128) ![16, 0] ![8, 128] inb_S56x128_S8x128_16_0))) (k0_pay106 i (View.ld x4 (Rect.unit (s := S56x128) ![24, 0] ![8, 128] inb_S56x128_S8x128_24_0))) (k0_pay107 i (View.ld x4 (Rect.unit (s := S56x128) ![32, 0] ![8, 128] inb_S56x128_S8x128_32_0))) (k0_pay108 i (View.ld x4 (Rect.unit (s := S56x128) ![40, 0] ![8, 128] inb_S56x128_S8x128_40_0))) (k0_pay109 (View.ld x4 (Rect.unit (s := S56x128) ![48, 0] ![8, 128] inb_S56x128_S8x128_48_0)))
      (View.ld x0 (Rect.unit (s := S1) ![0] ![1] inb_S1_S1_0) (Shape.Idx.first (by decide)))
      (View.ld x3 (Rect.unit (s := S56x256) ![0, 128] ![56, 128] inb_S56x256_S56x128_0_128))

/-- The first store holds the absmax values of the point's first 128 columns. -/
theorem amLo_apply (x : S56x128.Idx) :
    amLo i x0 x3 x4 x = amV i x0 x3 x4 ((Rect.unit (s := S56x256) ![0, 0] ![56, 128] inb_S56x256_S56x128_0_0).emb x) := by
  obtain ⟨b, l, rfl⟩ : ∃ (b : Fin 56) (l : Fin 128), x = ix2 b l := ⟨x 0, x 1, eq_ix2 x⟩
  have e : (Rect.unit (s := S56x256) ![0, 0] ![56, 128] inb_S56x256_S56x128_0_0).emb (ix2 b l) = ix2 b (⟨l.val, by omega⟩ : Fin 256) := by
    funext a
    fin_cases a <;> apply Fin.ext <;> simp [Rect.emb_apply, ix2]
  rw [e]
  pointwise [amLo, k0_pay111, amV]
  rw [scales_apply]

/-- The second store holds those of its last 128. -/
theorem amHi_apply (x : S56x128.Idx) :
    amHi i x0 x3 x4 x = amV i x0 x3 x4 ((Rect.unit (s := S56x256) ![0, 128] ![56, 128] inb_S56x256_S56x128_0_128).emb x) := by
  obtain ⟨b, l, rfl⟩ : ∃ (b : Fin 56) (l : Fin 128), x = ix2 b l := ⟨x 0, x 1, eq_ix2 x⟩
  have e : (Rect.unit (s := S56x256) ![0, 128] ![56, 128] inb_S56x256_S56x128_0_128).emb (ix2 b l) = ix2 b (⟨128 + l.val, by omega⟩ : Fin 256) := by
    funext a
    fin_cases a <;> apply Fin.ext <;> simp [Rect.emb_apply, ix2]
  rw [e]
  pointwise [amHi, k0_pay112, amV]
  rw [scales_apply]

/-- The scratch after both stores. -/
theorem am_canon (y : S56x256.Idx) :
    View.canon (Val := Elt Ideal) (s := S56x256) (e := .f32) [⟨Rect.unit (s := S56x256) ![0, 128] ![56, 128] inb_S56x256_S56x128_0_128, amHi i x0 x3 x4⟩,
        ⟨Rect.unit (s := S56x256) ![0, 0] ![56, 128] inb_S56x256_S56x128_0_0, amLo i x0 x3 x4⟩] y = amV i x0 x3 x4 y := by
  have hp : View.PiecesOf (Val := Elt Ideal) (s := S56x256) (e := .f32) (amV i x0 x3 x4)
      [⟨Rect.unit (s := S56x256) ![0, 128] ![56, 128] inb_S56x256_S56x128_0_128, amHi i x0 x3 x4⟩,
        ⟨Rect.unit (s := S56x256) ![0, 0] ![56, 128] inb_S56x256_S56x128_0_0, amLo i x0 x3 x4⟩] :=
    ⟨amHi_apply i x0 x3 x4, amLo_apply i x0 x3 x4, trivial⟩
  refine View.canon_apply_of_pieces _ _ hp.mem y ?_
  have h0 : (y 0).val < 56 := (y 0).isLt
  have h1 : (y 1).val < 256 := (y 1).isLt
  by_cases h : (y 1).val < 128
  · refine ⟨⟨Rect.unit (s := S56x256) ![0, 0] ![56, 128] inb_S56x256_S56x128_0_0, amLo i x0 x3 x4⟩,
      List.mem_cons_of_mem _ List.mem_cons_self, ?_⟩
    rw [Rect.mem_set_unit]
    intro a
    fin_cases a <;> simp <;> omega
  · refine ⟨⟨Rect.unit (s := S56x256) ![0, 128] ![56, 128] inb_S56x256_S56x128_0_128, amHi i x0 x3 x4⟩,
      List.mem_cons_self, ?_⟩
    rw [Rect.mem_set_unit]
    intro a
    fin_cases a <;> simp <;> omega

end Cert.Proof

end
-- ==== Proof.XBlocks.lean ====
/- What the scratch of permuted activations holds after its loop (hand-written): every store is a part of ONE array, row
   `2r + h` of the activations at row `h` of pair `r`, its lanes permuted inside each run of 128 columns. -/
module

public import proofs.«01_k».proof.Proof.Words
public import Idealize.ShloMosaic.Lib.Pipeline.ReadBack
public import Idealize.ShloMosaic.Lib.Ring

@[expose] public section

noncomputable section

open Idealize.ShloMosaic Idealize.SL.Sem Cert.KernelIdeal Cert.KernelIdeal.Gen

namespace Cert.Proof

variable [Cert.KernelIdeal.Facts]

section Trip

variable {F : FTy → Type} [FloatOps F]

variable (𝒱 : Variants) (c : Dev nD) (bd : Option 𝒱.V) (i : grid0.Coords) (arg1 : Memref sig .tc .smem S1 .f32) (harg1 : arg1.IsWhole) (arg2 : Memref sig .tc .vmem S256x3584 .bf16) (harg2 : arg2.IsWhole) (arg3 : Memref sig .tc .vmem S1792x256 .i8) (harg3 : arg3.IsWhole) (arg4 : Memref sig .tc .vmem S56x256 .i8) (harg4 : arg4.IsWhole) (arg5 : Memref sig .tc .vmem S56x128 .f32) (harg5 : arg5.IsWhole) (arg6 : Memref sig .tc .vmem S256x256 .bf16) (harg6 : arg6.IsWhole) (arg7 : Memref sig .tc .vmem S128x2x3584 .bf16) (harg7 : arg7.IsWhole) (arg8 : Memref sig .tc .vmem S1792x2x256 .bf16) (harg8 : arg8.IsWhole) (arg9 : Memref sig .tc .vmem S56x256 .f32) (harg9 : arg9.IsWhole)

/-- One block of sixteen rows, its lanes permuted and its rows paired. -/
def xBlock (x : Vec F S16x128 .bf16) : Vec F S8x2x128 .bf16 := k0_pay4 k0_pay100 x

/-- The trip's read of sixteen rows of the activations. -/
abbrev xAt (X : BufTy.Contents (Elt F) arg2.view.ty) (off : Fin 2 → ℕ) (h : ∀ a, off a + S16x128.size a ≤ S256x3584.size a) : Vec F S16x128 .bf16 :=
  View.ld (arg2.view.read (Elt F) X) (Rect.unit (s := S256x3584) off S16x128.size h)

/-- The sixteen stores of a trip of the permuting loop, last first. -/
theorem tripL_k0_t1_eq (k0_h1 : k0_cond1 i = 1#1) (X2 : BufTy.Contents (Elt F) arg2.view.ty) (k : Fin k0_t1_loop.trips) :
    tripL_k0_t1 𝒱 c bd i arg1 harg1 arg2 harg2 arg3 harg3 arg4 harg4 arg5 harg5 arg6 harg6 arg7 harg7 arg8 harg8 arg9 harg9 k0_h1 X2 k
      = [⟨Rect.unit (k0_off32 k) ![8, 2, 128] (k0_off32_inb i k k0_h1), xBlock (xAt arg2 X2 (k0_off31 k) (k0_off31_inb i k k0_h1))⟩,
          ⟨Rect.unit (k0_off30 k) ![8, 2, 128] (k0_off30_inb i k k0_h1), xBlock (xAt arg2 X2 (k0_off29 k) (k0_off29_inb i k k0_h1))⟩,
          ⟨Rect.unit (k0_off28 k) ![8, 2, 128] (k0_off28_inb i k k0_h1), xBlock (xAt arg2 X2 (k0_off27 k) (k0_off27_inb i k k0_h1))⟩,
          ⟨Rect.unit (k0_off26 k) ![8, 2, 128] (k0_off26_inb i k k0_h1), xBlock (xAt arg2 X2 (k0_off25 k) (k0_off25_inb i k k0_h1))⟩,
          ⟨Rect.unit (k0_off24 k) ![8, 2, 128] (k0_off24_inb i k k0_h1), xBlock (xAt arg2 X2 (k0_off23 k) (k0_off23_inb i k k0_h1))⟩,
          ⟨Rect.unit (k0_off22 k) ![8, 2, 128] (k0_off22_inb i k k0_h1), xBlock (xAt arg2 X2 (k0_off21 k) (k0_off21_inb i k k0_h1))⟩,
          ⟨Rect.unit (k0_off20 k) ![8, 2, 128] (k0_off20_inb i k k0_h1), xBlock (xAt arg2 X2 (k0_off19 k) (k0_off19_inb i k k0_h1))⟩,
          ⟨Rect.unit (k0_off18 k) ![8, 2, 128] (k0_off18_inb i k k0_h1), xBlock (xAt arg2 X2 (k0_off17 k) (k0_off17_inb i k k0_h1))⟩,
          ⟨Rect.unit (k0_off16 k) ![8, 2, 128] (k0_off16_inb i k k0_h1), xBlock (xAt arg2 X2 (k0_off15 k) (k0_off15_inb i k k0_h1))⟩,
          ⟨Rect.unit (k0_off14 k) ![8, 2, 128] (k0_off14_inb i k k0_h1), xBlock (xAt arg2 X2 (k0_off13 k) (k0_off13_inb i k k0_h1))⟩,
          ⟨Rect.unit (k0_off12 k) ![8, 2, 128] (k0_off12_inb i k k0_h1), xBlock (xAt arg2 X2 (k0_off11 k) (k0_off11_inb i k k0_h1))⟩,
          ⟨Rect.unit (k0_off10 k) ![8, 2, 128] (k0_off10_inb i k k0_h1), xBlock (xAt arg2 X2 (k0_off9 k) (k0_off9_inb i k k0_h1))⟩,
          ⟨Rect.unit (k0_off8 k) ![8, 2, 128] (k0_off8_inb i k k0_h1), xBlock (xAt arg2 X2 (k0_off7 k) (k0_off7_inb i k k0_h1))⟩,
          ⟨Rect.unit (k0_off6 k) ![8, 2, 128] (k0_off6_inb i k k0_h1), xBlock (xAt arg2 X2 (k0_off5 k) (k0_off5_inb i k k0_h1))⟩,
          ⟨Rect.unit (k0_off4 k) ![8, 2, 128] (k0_off4_inb i k k0_h1), xBlock (xAt arg2 X2 (k0_off3 k) (k0_off3_inb i k k0_h1))⟩,
          ⟨Rect.unit (k0_off2 k) ![8, 2, 128] (k0_off2_inb i k k0_h1), xBlock (xAt arg2 X2 (k0_off1 k) (k0_off1_inb i k k0_h1))⟩] := by
  unfold tripL_k0_t1 trip_k0_t1
  rfl

end Trip

/-- The lane that lane `l` of a run of 128 takes. -/
def permLane (l : ℕ) : ℕ := 64 * (l / 64) + 8 * (l % 64 / 2 % 8) + l % 64 / 16 + 4 * (l % 2)

theorem permLane_lt (l : ℕ) (h : l < 128) : permLane l < 128 := by unfold permLane; omega

/-- The column of the activations that column `p` of the scratch takes. -/
def permCol (p : Fin 3584) : Fin 3584 :=
  ⟨128 * (p.val / 128) + permLane (p.val % 128), by have := permLane_lt (p.val % 128) (by omega); omega⟩

/-- The scratch's contents after the loop. -/
def G7 (X : Vec Ideal S256x3584 .bf16) : S128x2x3584.Idx → EReal :=
  fun j => X (ix2 ⟨2 * (j 0).val + (j 1).val, by have h0 : (j 0).val < 128 := (j 0).isLt; have h1 : (j 1).val < 2 := (j 1).isLt; omega⟩ (permCol (j 2)))

theorem pay100_toNat (q : Fin 8) (l : Fin 128) : (k0_pay100 (ix2 q l)).toNat % 128 = permLane l.val := by
  have e : ∀ l : Fin 128, (k0_pay100 (ix2 (0 : Fin 8) l)).toNat % 128 = permLane l.val := by decide +kernel
  rw [← e l]
  rfl

/-- A block read at an index. -/
theorem xBlock_apply (x : Vec Ideal S16x128 .bf16) (q : Fin 8) (h : Fin 2) (l : Fin 128) :
    xBlock (F := Ideal) x (ix3 q h l) = x (ix2 ⟨2 * q.val + h.val, by omega⟩ ⟨permLane l.val, permLane_lt _ l.isLt⟩) := by
  unfold xBlock
  pointwise [k0_pay4]
  have el : (⟨(k0_pay100 (ix2 q l)).toNat % 128, Nat.mod_lt _ (by omega)⟩ : Fin 128) = ⟨permLane l.val, permLane_lt _ l.isLt⟩ :=
    Fin.ext (pay100_toNat q l)
  by_cases hc : h.val % 2 = 0
  · rw [if_pos hc]
    exact congrArg x (congrArg₂ ix2 (Fin.ext (by show 2 * q.val = 2 * q.val + h.val; omega)) el)
  · rw [if_neg hc]
    exact congrArg x (congrArg₂ ix2 (Fin.ext (by show 2 * q.val + 1 = 2 * q.val + h.val; omega)) el)

/-- One store is the part of the array its rectangle names. -/
theorem xpiece_val (X : Vec Ideal S256x3584 .bf16) (k g : ℕ) (hk : k < 28) (hg : g < 16) (w : Vec Ideal S16x128 .bf16)
    (hw : ∀ (r : Fin 16) (l : Fin 128), w (ix2 r l) = X (ix2 ⟨16 * g + r.val, by omega⟩ ⟨128 * k + l.val, by omega⟩))
    (off : Fin 3 → ℕ) (h : ∀ a, off a + ![8, 2, 128] a ≤ S128x2x3584.size a) (hoff : off = ![8 * g, 0, 128 * k])
    (x : S8x2x128.Idx) :
    xBlock (F := Ideal) w x = G7 X ((Rect.unit (s := S128x2x3584) off ![8, 2, 128] h).emb x) := by
  subst hoff
  obtain ⟨q, hh, l, rfl⟩ : ∃ (q : Fin 8) (hh : Fin 2) (l : Fin 128), x = ix3 q hh l := ⟨x 0, x 1, x 2, eq_ix3 x⟩
  have e : (Rect.unit (s := S128x2x3584) ![8 * g, 0, 128 * k] ![8, 2, 128] h).emb (ix3 q hh l)
      = ix3 (⟨8 * g + q.val, by omega⟩ : Fin 128) hh (⟨128 * k + l.val, by omega⟩ : Fin 3584) := by
    funext a
    fin_cases a <;> apply Fin.ext <;> simp [Rect.emb_apply, ix3]
  rw [xBlock_apply, hw, e]
  unfold G7 permCol
  simp only [ix3_0, ix3_1, ix3_2]
  congr 2
  · apply Fin.ext
    dsimp only
    omega
  · apply Fin.ext
    dsimp only
    rw [show (128 * k + l.val) / 128 = k by omega, show (128 * k + l.val) % 128 = l.val by omega]

section Loop

variable (𝒱 : Variants) (c : Dev nD) (bd : Option 𝒱.V) (i : grid0.Coords) (arg1 : Memref sig .tc .smem S1 .f32) (harg1 : arg1.IsWhole) (arg2 : Memref sig .tc .vmem S256x3584 .bf16) (harg2 : arg2.IsWhole) (arg3 : Memref sig .tc .vmem S1792x256 .i8) (harg3 : arg3.IsWhole) (arg4 : Memref sig .tc .vmem S56x256 .i8) (harg4 : arg4.IsWhole) (arg5 : Memref sig .tc .vmem S56x128 .f32) (harg5 : arg5.IsWhole) (arg6 : Memref sig .tc .vmem S256x256 .bf16) (harg6 : arg6.IsWhole) (arg7 : Memref sig .tc .vmem S128x2x3584 .bf16) (harg7 : arg7.IsWhole) (arg8 : Memref sig .tc .vmem S1792x2x256 .bf16) (harg8 : arg8.IsWhole) (arg9 : Memref sig .tc .vmem S56x256 .f32) (harg9 : arg9.IsWhole)

omit [Cert.KernelIdeal.Facts] in
/-- The trip's read of sixteen rows, at an index. -/
theorem xAt_apply (X : BufTy.Contents (Elt Ideal) arg2.view.ty) (k g : ℕ) (hk : k < 28) (hg : g < 16) (off : Fin 2 → ℕ)
    (h : ∀ a, off a + S16x128.size a ≤ S256x3584.size a) (hoff : off = ![16 * g, 128 * k]) (r : Fin 16) (l : Fin 128) :
    xAt arg2 X off h (ix2 r l) = arg2.view.read (Elt Ideal) X (ix2 ⟨16 * g + r.val, by omega⟩ ⟨128 * k + l.val, by omega⟩) := by
  subst hoff
  show arg2.view.read (Elt Ideal) X _ = _
  congr 1
  funext a
  fin_cases a <;> apply Fin.ext <;> simp [ix2, LoadRect.idx]

/-- The loop's stores after `n` of its trips. -/
abbrev xpPieces (k0_h1 : k0_cond1 i = 1#1) (X2 : BufTy.Contents (Elt Ideal) arg2.view.ty) (n : ℕ) :=
  pb_k0_t1 (F := Ideal) 𝒱 c bd i arg1 harg1 arg2 harg2 arg3 harg3 arg4 harg4 arg5 harg5 arg6 harg6 arg7 harg7 arg8 harg8 arg9 harg9 k0_h1 X2 n

/-- The sixteen stores of trip `k` are parts of the array. -/
theorem xtrip_piecesOf (k0_h1 : k0_cond1 i = 1#1) (X2 : BufTy.Contents (Elt Ideal) arg2.view.ty) (k : Fin k0_t1_loop.trips) :
    View.PiecesOf (G7 (arg2.view.read (Elt Ideal) X2))
      (tripL_k0_t1 𝒱 c bd i arg1 harg1 arg2 harg2 arg3 harg3 arg4 harg4 arg5 harg5 arg6 harg6 arg7 harg7 arg8 harg8 arg9 harg9 k0_h1 X2 k) := by
  have hk : k.val < 28 := lt_of_lt_of_le k.isLt k0_t1_abs.2.1
  rw [tripL_k0_t1_eq]
  exact ⟨xpiece_val (arg2.view.read (Elt Ideal) X2) k.val 15 hk (by omega) _ (xAt_apply arg2 X2 k.val 15 hk (by omega) _ (k0_off31_inb i k k0_h1) (k0_off31_eq k)) _ (k0_off32_inb i k k0_h1) (k0_off32_eq k),
    xpiece_val (arg2.view.read (Elt Ideal) X2) k.val 14 hk (by omega) _ (xAt_apply arg2 X2 k.val 14 hk (by omega) _ (k0_off29_inb i k k0_h1) (k0_off29_eq k)) _ (k0_off30_inb i k k0_h1) (k0_off30_eq k),
    xpiece_val (arg2.view.read (Elt Ideal) X2) k.val 13 hk (by omega) _ (xAt_apply arg2 X2 k.val 13 hk (by omega) _ (k0_off27_inb i k k0_h1) (k0_off27_eq k)) _ (k0_off28_inb i k k0_h1) (k0_off28_eq k),
    xpiece_val (arg2.view.read (Elt Ideal) X2) k.val 12 hk (by omega) _ (xAt_apply arg2 X2 k.val 12 hk (by omega) _ (k0_off25_inb i k k0_h1) (k0_off25_eq k)) _ (k0_off26_inb i k k0_h1) (k0_off26_eq k),
    xpiece_val (arg2.view.read (Elt Ideal) X2) k.val 11 hk (by omega) _ (xAt_apply arg2 X2 k.val 11 hk (by omega) _ (k0_off23_inb i k k0_h1) (k0_off23_eq k)) _ (k0_off24_inb i k k0_h1) (k0_off24_eq k),
    xpiece_val (arg2.view.read (Elt Ideal) X2) k.val 10 hk (by omega) _ (xAt_apply arg2 X2 k.val 10 hk (by omega) _ (k0_off21_inb i k k0_h1) (k0_off21_eq k)) _ (k0_off22_inb i k k0_h1) (k0_off22_eq k),
    xpiece_val (arg2.view.read (Elt Ideal) X2) k.val 9 hk (by omega) _ (xAt_apply arg2 X2 k.val 9 hk (by omega) _ (k0_off19_inb i k k0_h1) (k0_off19_eq k)) _ (k0_off20_inb i k k0_h1) (k0_off20_eq k),
    xpiece_val (arg2.view.read (Elt Ideal) X2) k.val 8 hk (by omega) _ (xAt_apply arg2 X2 k.val 8 hk (by omega) _ (k0_off17_inb i k k0_h1) (k0_off17_eq k)) _ (k0_off18_inb i k k0_h1) (k0_off18_eq k),
    xpiece_val (arg2.view.read (Elt Ideal) X2) k.val 7 hk (by omega) _ (xAt_apply arg2 X2 k.val 7 hk (by omega) _ (k0_off15_inb i k k0_h1) (k0_off15_eq k)) _ (k0_off16_inb i k k0_h1) (k0_off16_eq k),
    xpiece_val (arg2.view.read (Elt Ideal) X2) k.val 6 hk (by omega) _ (xAt_apply arg2 X2 k.val 6 hk (by omega) _ (k0_off13_inb i k k0_h1) (k0_off13_eq k)) _ (k0_off14_inb i k k0_h1) (k0_off14_eq k),
    xpiece_val (arg2.view.read (Elt Ideal) X2) k.val 5 hk (by omega) _ (xAt_apply arg2 X2 k.val 5 hk (by omega) _ (k0_off11_inb i k k0_h1) (k0_off11_eq k)) _ (k0_off12_inb i k k0_h1) (k0_off12_eq k),
    xpiece_val (arg2.view.read (Elt Ideal) X2) k.val 4 hk (by omega) _ (xAt_apply arg2 X2 k.val 4 hk (by omega) _ (k0_off9_inb i k k0_h1) (k0_off9_eq k)) _ (k0_off10_inb i k k0_h1) (k0_off10_eq k),
    xpiece_val (arg2.view.read (Elt Ideal) X2) k.val 3 hk (by omega) _ (xAt_apply arg2 X2 k.val 3 hk (by omega) _ (k0_off7_inb i k k0_h1) (k0_off7_eq k)) _ (k0_off8_inb i k k0_h1) (k0_off8_eq k),
    xpiece_val (arg2.view.read (Elt Ideal) X2) k.val 2 hk (by omega) _ (xAt_apply arg2 X2 k.val 2 hk (by omega) _ (k0_off5_inb i k k0_h1) (k0_off5_eq k)) _ (k0_off6_inb i k k0_h1) (k0_off6_eq k),
    xpiece_val (arg2.view.read (Elt Ideal) X2) k.val 1 hk (by omega) _ (xAt_apply arg2 X2 k.val 1 hk (by omega) _ (k0_off3_inb i k k0_h1) (k0_off3_eq k)) _ (k0_off4_inb i k k0_h1) (k0_off4_eq k),
    xpiece_val (arg2.view.read (Elt Ideal) X2) k.val 0 hk (by omega) _ (xAt_apply arg2 X2 k.val 0 hk (by omega) _ (k0_off1_inb i k k0_h1) (k0_off1_eq k)) _ (k0_off2_inb i k k0_h1) (k0_off2_eq k), trivial⟩

/-- So are the stores of the first `n` trips. -/
theorem xp_pieces (k0_h1 : k0_cond1 i = 1#1) (X2 : BufTy.Contents (Elt Ideal) arg2.view.ty) :
    ∀ n : ℕ, n ≤ k0_t1_loop.trips → ∀ p ∈ xpPieces 𝒱 c bd i arg1 harg1 arg2 harg2 arg3 harg3 arg4 harg4 arg5 harg5 arg6 harg6 arg7 harg7 arg8 harg8 arg9 harg9 k0_h1 X2 n, ∀ x : p.1.shape.Idx,
      p.2 x = G7 (arg2.view.read (Elt Ideal) X2) (p.1.emb x)
  | 0, _, p, hp, _ => by
    unfold xpPieces at hp
    rw [pb_k0_t1.eq_1] at hp
    exact absurd hp List.not_mem_nil
  | n + 1, hn, p, hp, x => by
    have e := pb_k0_t1_succ (F := Ideal) 𝒱 c bd i arg1 harg1 arg2 harg2 arg3 harg3 arg4 harg4 arg5 harg5 arg6 harg6 arg7 harg7 arg8 harg8 arg9 harg9 k0_h1 X2 ⟨n, hn⟩
    unfold xpPieces at hp
    rw [e] at hp
    rcases List.mem_append.mp hp with hp | hp
    · exact (xtrip_piecesOf 𝒱 c bd i arg1 harg1 arg2 harg2 arg3 harg3 arg4 harg4 arg5 harg5 arg6 harg6 arg7 harg7 arg8 harg8 arg9 harg9 k0_h1 X2 ⟨n, hn⟩).mem p hp x
    · exact xp_pieces k0_h1 X2 n (by omega) p hp x

/-- After the loop the scratch holds the array. -/
theorem xp_canon (k0_h1 : k0_cond1 i = 1#1) (X2 : BufTy.Contents (Elt Ideal) arg2.view.ty) (y : S128x2x3584.Idx) :
    View.canon (xpPieces 𝒱 c bd i arg1 harg1 arg2 harg2 arg3 harg3 arg4 harg4 arg5 harg5 arg6 harg6 arg7 harg7 arg8 harg8 arg9 harg9 k0_h1 X2 (Scf.trips k0_t1_loop.lb k0_t1_loop.ub k0_t1_loop.st)) y
      = G7 (arg2.view.read (Elt Ideal) X2) y :=
  View.canon_apply_of_pieces _ _ (xp_pieces 𝒱 c bd i arg1 harg1 arg2 harg2 arg3 harg3 arg4 harg4 arg5 harg5 arg6 harg6 arg7 harg7 arg8 harg8 arg9 harg9 k0_h1 X2 _ le_rfl) y
    (View.cover_of_tiledL (xpPieces 𝒱 c bd i arg1 harg1 arg2 harg2 arg3 harg3 arg4 harg4 arg5 harg5 arg6 harg6 arg7 harg7 arg8 harg8 arg9 harg9 k0_h1 X2 (Scf.trips k0_t1_loop.lb k0_t1_loop.ub k0_t1_loop.st)) S8x2x128.size (by sl_kernel_rfl) y)

end Loop

end Cert.Proof

end
-- ==== Proof.Point.lean ====
/- What one point of the grid computes (hand-written): the product of the permuted activations and the dequantised
   weights, written once as a function of the point's blocks and of the scratch it reads, at the first point and at every
   later one. -/
module

public import proofs.«01_k».proof.Proof.Am
public import proofs.«01_k».proof.Proof.XBlocks
public import proofs.«01_k».proof.Proof.Gen.KernelIdeal.Frame

@[expose] public section

noncomputable section

open Idealize.ShloMosaic Idealize.SL.Sem Cert.KernelIdeal Cert.KernelIdeal.Gen

namespace Cert.Proof

variable (c : Dev nD) (i : grid0.Coords) (arg1 : Memref sig .tc .smem S1 .f32) (harg1 : arg1.IsWhole) (arg2 : Memref sig .tc .vmem S256x3584 .bf16) (harg2 : arg2.IsWhole) (arg3 : Memref sig .tc .vmem S1792x256 .i8) (harg3 : arg3.IsWhole) (arg4 : Memref sig .tc .vmem S56x256 .i8) (harg4 : arg4.IsWhole) (arg5 : Memref sig .tc .vmem S56x128 .f32) (harg5 : arg5.IsWhole) (arg6 : Memref sig .tc .vmem S256x256 .bf16) (harg6 : arg6.IsWhole) (arg7 : Memref sig .tc .vmem S128x2x3584 .bf16) (harg7 : arg7.IsWhole) (arg8 : Memref sig .tc .vmem S1792x2x256 .bf16) (harg8 : arg8.IsWhole) (arg9 : Memref sig .tc .vmem S56x256 .f32) (harg9 : arg9.IsWhole)

variable (x0 : Vec Ideal S1 .f32) (x1 : Vec Ideal S256x3584 .bf16) (x2 : Vec Ideal S1792x256 .i8) (x3 : Vec Ideal S56x256 .i8) (x4 : Vec Ideal S56x128 .f32) (xs0 : Vec Ideal S128x2x3584 .bf16)

/-- The whole of the weight scratch, read after the loop. -/
theorem wd_read (X9 : BufTy.Contents (Elt Ideal) arg9.view.ty) :
    arg8.view.readCov (wdPieces Variants.none c none i arg1 harg1 arg2 harg2 arg3 harg3 arg4 harg4 arg5 harg5 arg6 harg6 arg7 harg7 arg8 harg8 arg9 harg9 (harg3.unread x2) X9 (Scf.trips k0_t2_loop.lb k0_t2_loop.ub k0_t2_loop.st))
        (Rect.unit (s := S1792x2x256) ![0, 0, 0] ![1792, 2, 256] inb_S1792x2x256_S1792x2x256_0_0_0).toLoadRect
      = G8 x2 (arg9.view.read (Elt Ideal) X9) := by
  rw [View.readCov_eq_canon']
  funext y
  have e : (Rect.unit (s := S1792x2x256) ![0, 0, 0] ![1792, 2, 256] inb_S1792x2x256_S1792x2x256_0_0_0).toLoadRect.idx y = y := by
    funext a
    fin_cases a <;> apply Fin.ext <;> simp [LoadRect.idx]
  rw [e, wd_canon, harg3.read_unread]

/-- The whole of the activations' scratch, read after its loop. -/
theorem xp_read (hc0 : k0_cond1 i = 1#1) :
    arg7.view.readCov (xpPieces Variants.none c none i arg1 harg1 arg2 harg2 arg3 harg3 arg4 harg4 arg5 harg5 arg6 harg6 arg7 harg7 arg8 harg8 arg9 harg9 hc0 (harg2.unread x1) (Scf.trips k0_t1_loop.lb k0_t1_loop.ub k0_t1_loop.st))
        (Rect.unit (s := S128x2x3584) ![0, 0, 0] ![128, 2, 3584] inb_S128x2x3584_S128x2x3584_0_0_0).toLoadRect
      = G7 x1 := by
  rw [View.readCov_eq_canon']
  funext y
  have e : (Rect.unit (s := S128x2x3584) ![0, 0, 0] ![128, 2, 3584] inb_S128x2x3584_S128x2x3584_0_0_0).toLoadRect.idx y = y := by
    funext a
    fin_cases a <;> apply Fin.ext <;> simp [LoadRect.idx]
  rw [e, xp_canon, harg2.read_unread]

/-- The absmax scratch read after its two stores. -/
theorem am_read : arg9.view.read (Elt Ideal) (arg9.view.writes (Elt Ideal) arg9.view.junk
    [⟨Rect.unit (s := S56x256) ![0, 128] ![56, 128] inb_S56x256_S56x128_0_128, amHi i x0 x3 x4⟩,
        ⟨Rect.unit (s := S56x256) ![0, 0] ![56, 128] inb_S56x256_S56x128_0_0, amLo i x0 x3 x4⟩]) = amV i x0 x3 x4 := by
  rw [View.read_writes_junk_eq_canon]
  exact funext fun y => am_canon i x0 x3 x4 y

/-- The first point's block of the result. -/
theorem out_first (hc0 : cond0_0 i) :
    out0_A_5 c i arg1 harg1 arg2 harg2 arg3 harg3 arg4 harg4 arg5 harg5 arg6 harg6 arg7 harg7 arg8 harg8 arg9 harg9 hc0 x0 x1 x2 x3 x4 = k0_pay3 (F := Ideal) (G7 x1) (G8 x2 (amV i x0 x3 x4)) := by
  frame_out
  refine congrArg₂ (k0_pay3 (F := Ideal)) (xp_read c i arg1 harg1 arg2 harg2 arg3 harg3 arg4 harg4 arg5 harg5 arg6 harg6 arg7 harg7 arg8 harg8 arg9 harg9 x1 hc0) ?_
  refine (wd_read c i arg1 harg1 arg2 harg2 arg3 harg3 arg4 harg4 arg5 harg5 arg6 harg6 arg7 harg7 arg8 harg8 arg9 harg9 x2 _).trans ?_
  exact congrArg (G8 x2) (am_read i arg9 x0 x3 x4)

/-- A later point's block of the result, the activations' scratch as the point before left it. -/
theorem out_later (hc0 : ¬cond0_0 i) :
    out0_B_5 c i arg1 harg1 arg2 harg2 arg3 harg3 arg4 harg4 arg5 harg5 arg6 harg6 arg7 harg7 arg8 harg8 arg9 harg9 hc0 x0 x1 x2 x3 x4 xs0 = k0_pay3 (F := Ideal) xs0 (G8 x2 (amV i x0 x3 x4)) := by
  frame_out
  refine congrArg (k0_pay3 (F := Ideal) xs0) ?_
  refine (wd_read c i arg1 harg1 arg2 harg2 arg3 harg3 arg4 harg4 arg5 harg5 arg6 harg6 arg7 harg7 arg8 harg8 arg9 harg9 x2 _).trans ?_
  exact congrArg (G8 x2) (am_read i arg9 x0 x3 x4)

/-- What the first point leaves in the activations' scratch. -/
theorem sout_first (hc0 : cond0_0 i) :
    sout0_A_0 c i arg1 harg1 arg2 harg2 arg3 harg3 arg4 harg4 arg5 harg5 arg6 harg6 arg7 harg7 arg8 harg8 arg9 harg9 hc0 x0 x1 x2 x3 x4 = G7 x1 := by
  unfold sout0_A_0 kernelRun0_A
  dsimp only
  rw [View.read_writes_junk_eq_canon]
  funext y
  refine (xp_canon Variants.none c none i arg1 harg1 arg2 harg2 arg3 harg3 arg4 harg4 arg5 harg5 arg6 harg6 arg7 harg7 arg8 harg8 arg9 harg9 hc0 (harg2.unread x1) y).trans ?_
  rw [harg2.read_unread]

end Cert.Proof

end
-- ==== Proof.Entry.lean ====
/- What each point of the grid is handed (hand-written): its blocks of the five arguments, read as entries of the
   arguments themselves. -/
module

public import proofs.«01_k».proof.Proof.Point
public import Idealize.ShloMosaic.Lib.Pipeline.ValueKit
public import Idealize.ShloMosaic.Lib.Claim

@[expose] public section

noncomputable section

open Idealize.ShloMosaic Idealize.ShloMosaic.TcCoe Idealize.SL.Sem Cert.KernelIdeal Cert.KernelIdeal.Gen

namespace Cert.Proof

/-- Which block of each window a point is handed. -/
theorem idx_in : ∀ t : Fin grid0.N, win0_0.index t = ![0] ∧ win0_1.index t = ![0, 0] ∧ win0_2.index t = ![0, t.val] ∧ win0_3.index t = ![0, t.val]
    ∧ win0_4.index t = ![0, 0] := by decide +kernel

/-- A point's only coordinate is its place in the sweep. -/
theorem coords_val : ∀ t : Fin grid0.N, ((grid0.coords t) 0).val = t.val := by decide +kernel

variable (m : (ℓ : Loc nD τ sig) → Buf (Elt Ideal) ℓ) (c : Dev nD) (t : Fin cfg0.N)

/-- The offset as the region finds it: a vector of one. -/
theorem entry_off : V m c main_v1 = shapeCast S1 (m (c.tc.loc main_arg4)) shapeCasts_S_S1 := by
  show StableHlo.after [hostOps0, hostOps0_1, hostOps0_2].flatten _ _ = _
  simp only [hostOps0, hostOps0_1, hostOps0_2, List.flatten_cons, List.flatten_nil, List.append_nil, List.cons_append, List.nil_append]
  entry_read
  rfl

/-- The activations as the region finds them: one row per token. -/
theorem entry_x : V m c main_v2 = shapeCast S256x3584 (m (c.tc.loc main_arg0)) shapeCasts_S256x1x3584_S256x3584 := by
  show StableHlo.after [hostOps0, hostOps0_1, hostOps0_2].flatten _ _ = _
  simp only [hostOps0, hostOps0_1, hostOps0_2, List.flatten_cons, List.flatten_nil, List.append_nil, List.cons_append, List.nil_append]
  entry_read
  rfl

/-- The scales as the region finds them: padded to 128 lanes. -/
theorem entry_scale : V m c main_v0
    = pad S56x128 ![0, 0] ![0, 91] ![0, 0] (m (c.tc.loc main_arg3)) (sitofp (F := Ideal) .f32 (constantI S_ 32 0#32)) pads_S56x37_S56x128_000_0910 h_S_ := by
  show StableHlo.after [hostOps0, hostOps0_1, hostOps0_2].flatten _ _ = _
  simp only [hostOps0, hostOps0_1, hostOps0_2, List.flatten_cons, List.flatten_nil, List.append_nil, List.cons_append, List.nil_append]
  after_results
  rfl

/-- The offset, at a point. -/
theorem blk_off : iblk m c 0 t (ix1 0) = m (c.tc.loc main_arg4) ix0 := by
  show View.read (Elt Ideal) ((cfg0.win 0).blk t).view (V m c main_v1) (ix1 0) = _
  rw [entry_off]
  blk_simp [idx_in t]
  pointwise

/-- The activations, at a point: all of them. -/
theorem blk_x (r : Fin 256) (p : Fin 3584) : iblk m c 1 t (ix2 r p) = m (c.tc.loc main_arg0) (ix3 r 0 p) := by
  show View.read (Elt Ideal) ((cfg0.win 1).blk t).view (V m c main_v2) (ix2 r p) = _
  rw [entry_x]
  have e : ((cfg0.win 1).blk t).view.emb (ix2 r p) = (ix2 r p : S256x3584.Idx) := by blk_ext [idx_in t]
  show shapeCast S256x3584 (m (c.tc.loc main_arg0)) shapeCasts_S256x1x3584_S256x3584 (((cfg0.win 1).blk t).view.emb (ix2 r p)) = _
  rw [e]
  refine shapeCast_apply (s := S256x1x3584) _ _ _ (ix3 r 0 p) ?_
  rw [Shape.rowMajor_val_three, Shape.rowMajor_val_two]
  show (r.val * 1 + 0) * 3584 + p.val = r.val * 3584 + p.val
  omega

/-- The packed weights, at a point: its 256 columns. -/
theorem blk_w (r : Fin 1792) (n : Fin 256) (h : 256 * t.val + n.val < 9472) :
    iblk m c 2 t (ix2 r n) = m (c.tc.loc main_arg1) (ix2 r ⟨256 * t.val + n.val, h⟩) := by
  blk_ext [iblk, V, idx_in t]

/-- The absmax codes, at a point: its 256 columns. -/
theorem blk_codes (b : Fin 56) (n : Fin 256) (h : 256 * t.val + n.val < 9472) :
    iblk m c 3 t (ix2 b n) = m (c.tc.loc main_arg2) (ix2 b ⟨256 * t.val + n.val, h⟩) := by
  blk_ext [iblk, V, idx_in t]

/-- The scales, at a point: the first 37 lanes are the argument's. -/
theorem blk_scale (b : Fin 56) (l : Fin 128) (h : l.val < 37) :
    iblk m c 4 t (ix2 b l) = m (c.tc.loc main_arg3) (ix2 b ⟨l.val, h⟩) := by
  show View.read (Elt Ideal) ((cfg0.win 4).blk t).view (V m c main_v0) (ix2 b l) = _
  rw [entry_scale]
  have e : ((cfg0.win 4).blk t).view.emb (ix2 b l) = (ix2 b l : S56x128.Idx) := by blk_ext [idx_in t]
  show pad S56x128 ![0, 0] ![0, 91] ![0, 0] (m (c.tc.loc main_arg3)) (sitofp (F := Ideal) .f32 (constantI S_ 32 0#32)) pads_S56x37_S56x128_000_0910 h_S_ (((cfg0.win 4).blk t).view.emb (ix2 b l)) = _
  rw [e]
  pointwise
  refine dif_pos fun a => ?_
  fin_cases a
  · exact ⟨Nat.zero_le _, Nat.mod_one _, by simpa using b.isLt⟩
  · exact ⟨Nat.zero_le _, Nat.mod_one _, by simpa using h⟩

end Cert.Proof

end
-- ==== Proof.Sweep.lean ====
/- What the kernel's result holds (hand-written): the activations' scratch carries the permuted activations through the
   whole sweep, every point leaves the product of that scratch and its own dequantised weights, and the result array is
   those blocks side by side. -/
module

public import proofs.«01_k».proof.Proof.Entry
public import proofs.«01_k».proof.Proof.Gen.KernelIdeal.Value

@[expose] public section

noncomputable section

open Idealize.ShloMosaic Idealize.ShloMosaic.TcCoe Idealize.SL.Sem Cert.KernelIdeal Cert.KernelIdeal.Gen Cert.KernelIdeal.Value

namespace Cert.Proof

variable (m : (ℓ : Loc nD τ sig) → Buf (Elt Ideal) ℓ) (c : Dev nD)

/-- The activations, one row per token. -/
def xArr : Vec Ideal S256x3584 .bf16 := fun j => m (c.tc.loc main_arg0) (ix3 (j 0) 0 (j 1))

/-- Every point is handed all the activations. -/
theorem blk_xArr (t : Fin cfg0.N) : iblk m c 1 t = xArr m c := by
  funext j
  obtain ⟨r, p, rfl⟩ : ∃ (r : Fin 256) (p : Fin 3584), j = ix2 r p := ⟨j 0, j 1, eq_ix2 j⟩
  exact blk_x m c t r p

/-- The absmax values a point dequantises with. -/
def amPt (t : Fin cfg0.N) : Vec Ideal S56x256 .f32 := amV (grid0.coords t) (iblk m c 0 t) (iblk m c 3 t) (iblk m c 4 t)

/-- What one step of the sweep leaves, when it finds the scratch holding the permuted activations or is the first. -/
theorem step_eq (n : ℕ) (hn : n < cfg0.N) (acc : Vec Ideal S256x256 .bf16 × Vec Ideal S128x2x3584 .bf16)
    (hacc : n ≠ 0 → acc.2 = G7 (xArr m c)) :
    stAt0 m c n hn acc = (k0_pay3 (F := Ideal) (G7 (xArr m c)) (G8 (iblk m c 2 ⟨n, hn⟩) (amPt m c ⟨n, hn⟩)), G7 (xArr m c)) := by
  have hn' : n < 37 := hn
  by_cases h0 : n % 37 = 0
  · rw [stAt0_A m c ⟨n, hn⟩ acc h0, out_first, sout_first, blk_xArr]
    rfl
  · rw [stAt0_B m c ⟨n, hn⟩ acc h0, out_later, hacc (by omega)]
    rfl

/-- What every point leaves. -/
theorem outsAt0_eq (n : ℕ) (hn : n < cfg0.N) :
    outsAt0 m c n hn = (k0_pay3 (F := Ideal) (G7 (xArr m c)) (G8 (iblk m c 2 ⟨n, hn⟩) (amPt m c ⟨n, hn⟩)), G7 (xArr m c)) := by
  induction n with
  | zero => rw [outsAt0_zero]; exact step_eq m c 0 hn _ (fun h => absurd rfl h)
  | succ n ih => rw [outsAt0_succ]; exact step_eq m c (n + 1) hn _ (fun _ => by rw [ih])

/-- The result at an index is what the point its block belongs to leaves there. -/
theorem G5_outs (i : S256x9472.Idx) (h : pt5Of i < cfg0.N) : G5 m c i = (outsAt0 m c (pt5Of i) h).1 (loc5Of i) := by
  rw [outsAt0_sweep]
  exact dif_pos h

/-- The result at row `r`, column `256·t + n`: point `t`'s block at `(r, n)`. -/
theorem G5_apply (r : Fin 256) (t : Fin cfg0.N) (n : Fin 256) (h : 256 * t.val + n.val < 9472) :
    G5 m c (ix2 r ⟨256 * t.val + n.val, h⟩) = k0_pay3 (F := Ideal) (G7 (xArr m c)) (G8 (iblk m c 2 t) (amPt m c t)) (ix2 r n) := by
  have ht : t.val < 37 := t.isLt
  have e : pt5Of (ix2 r ⟨256 * t.val + n.val, h⟩) = t.val := by
    show 37 * (r.val / 256 - 0) + 1 * ((256 * t.val + n.val) / 256 - 0) = t.val
    omega
  have e' : loc5Of (ix2 r ⟨256 * t.val + n.val, h⟩) = ix2 r n := by
    funext a
    fin_cases a
    · exact Fin.ext (show r.val % 256 = r.val by omega)
    · exact Fin.ext (show (256 * t.val + n.val) % 256 = n.val by omega)
  have key : ∀ (k : ℕ) (hk : k < cfg0.N) (y : S256x256.Idx), k = t.val → y = ix2 r n →
      (outsAt0 m c k hk).1 y = k0_pay3 (F := Ideal) (G7 (xArr m c)) (G8 (iblk m c 2 t) (amPt m c t)) (ix2 r n) := by
    rintro k hk y rfl rfl
    rw [outsAt0_eq]
  exact (G5_outs m c _ (lt_of_eq_of_lt e t.isLt)).trans (key _ _ _ e e')

end Cert.Proof

end
-- ==== Proof.Product.lean ====
/- The kernel's result read at an entry (hand-written): one sum over the contraction axis, its terms those of the
   problem's own product taken in the order the kernel packs them. -/
module

public import proofs.«01_k».proof.Proof.Sweep

@[expose] public section

noncomputable section

open Idealize.ShloMosaic Idealize.ShloMosaic.TcCoe Idealize.SL.Sem Cert.KernelIdeal Cert.KernelIdeal.Gen Cert.KernelIdeal.Value

namespace Cert.Proof

/-- One of two values by a remainder is the value at the remainder. -/
theorem ite_mod_two (f : Fin 2 → EReal) (k : ℕ) : (if k % 2 = 0 then f 0 else f 1) = f ⟨k % 2, Nat.mod_lt _ (by omega)⟩ := by
  split
  · next h => exact congrArg f (Fin.ext h.symm)
  · next h => exact congrArg f (Fin.ext (show 1 = k % 2 by omega))

/-- The product read at row `r`, column `n`. -/
theorem pay3_apply (A : Vec Ideal S128x2x3584 .bf16) (B : Vec Ideal S1792x2x256 .bf16) (r n : Fin 256) :
    k0_pay3 (F := Ideal) A B (ix2 r n)
      = (∑ p : Fin 3584, A (ix3 ⟨r.val / 2, by omega⟩ ⟨r.val % 2, by omega⟩ p) * B (ix3 ⟨p.val / 2, by omega⟩ ⟨p.val % 2, by omega⟩ n) : EReal) := by
  pointwise [k0_pay3]
  refine Finset.sum_congr rfl fun p _ => congrArg₂ (fun a b : EReal => a * b) ?_ ?_
  · exact ite_mod_two (fun h => A (ix3 ⟨r.val / 2, by omega⟩ h p)) r.val
  · exact ite_mod_two (fun h => B (ix3 ⟨p.val / 2, by omega⟩ h n)) p.val

/-- The absmax value of block `b` of column `n`: its code by its scale, plus the offset. -/
def amax (C : IVec S56x9472 8) (S : FVec Ideal S56x37 .f32) (O : FVec Ideal S_ .f32) (b : Fin 56) (n : Fin 9472) : EReal :=
  (FloatOps.sitofp (F := Ideal) FTy.f32 (C (ix2 b n)) : EReal) * S (ix2 b ⟨n.val / 256, by omega⟩) + O ix0

/-- One term of the product at row `r`, column `n`: packed row `k`'s field `q`. -/
def term (X : FVec Ideal S256x1x3584 .bf16) (W : IVec S1792x9472 8) (C : IVec S56x9472 8) (S : FVec Ideal S56x37 .f32) (O : FVec Ideal S_ .f32)
    (r : Fin 256) (n : Fin 9472) (k : Fin 1792) (q : Fin 2) : EReal :=
  X (ix3 r 0 ⟨2 * k.val + q.val, by omega⟩) * ((lev (nib q.val (W (ix2 k n))) : EReal) * amax C S O ⟨k.val / 32, by omega⟩ n)

variable (m : (ℓ : Loc nD τ sig) → Buf (Elt Ideal) ℓ) (c : Dev nD)

/-- The packed row that position `p` of the kernel's contraction axis holds. -/
def rowOf (p : Fin 3584) : Fin 1792 := ⟨wdRow (p.val / 2) (p.val % 2), by unfold wdRow; omega⟩

/-- The field it holds. -/
def fieldOf (p : Fin 3584) : Fin 2 := ⟨p.val / 2 / 8 % 2, by omega⟩

/-- The activations' column at that position is the one that row and field stand for. -/
theorem permCol_eq (p : Fin 3584) : (permCol p).val = 2 * (rowOf p).val + (fieldOf p).val := by
  obtain ⟨p, hp⟩ := p
  simp only [permCol, permLane, rowOf, fieldOf, wdRow]
  omega

/-- A point's absmax values are those of its columns. -/
theorem amPt_apply (t : Fin cfg0.N) (b : Fin 56) (n : Fin 256) (h : 256 * t.val + n.val < 9472) :
    amPt m c t (ix2 b n)
      = amax (m (c.tc.loc main_arg2)) (m (c.tc.loc main_arg3)) (m (c.tc.loc main_arg4)) b ⟨256 * t.val + n.val, h⟩ := by
  have ht : t.val < 37 := t.isLt
  have hl : (laneOf (grid0.coords t)).val = t.val := by
    show (BitVec.ofNat 32 ((grid0.coords t) 0).val).toNat % 128 = t.val
    rw [coords_val t, BitVec.toNat_ofNat]
    omega
  show (FloatOps.sitofp (F := Ideal) FTy.f32 (iblk m c 3 t (ix2 b n)) : EReal) * iblk m c 4 t (ix2 b (laneOf (grid0.coords t))) + iblk m c 0 t (ix1 0) = _
  rw [blk_codes m c t b n h, blk_scale m c t b (laneOf (grid0.coords t)) (by omega), blk_off m c t]
  have e : (⟨(laneOf (grid0.coords t)).val, by omega⟩ : Fin 37) = ⟨(256 * t.val + n.val) / 256, by omega⟩ :=
    Fin.ext (by show (laneOf (grid0.coords t)).val = (256 * t.val + n.val) / 256; omega)
  rw [e]
  rfl

/-- The kernel's result at row `r`, column `n`. -/
theorem kernel_apply (r : Fin 256) (n : Fin 9472) :
    (G5 m c (ix2 r n) : EReal) = ∑ p : Fin 3584, term (m (c.tc.loc main_arg0)) (m (c.tc.loc main_arg1)) (m (c.tc.loc main_arg2)) (m (c.tc.loc main_arg3))
      (m (c.tc.loc main_arg4)) r n (rowOf p) (fieldOf p) := by
  obtain ⟨t, n, h, rfl⟩ : ∃ (t : Fin cfg0.N) (k : Fin 256) (h : 256 * t.val + k.val < 9472), n = ⟨256 * t.val + k.val, h⟩ :=
    ⟨⟨n.val / 256, show n.val / 256 < 37 by omega⟩, ⟨n.val % 256, by omega⟩, show 256 * (n.val / 256) + n.val % 256 < 9472 by omega,
      Fin.ext (show n.val = 256 * (n.val / 256) + n.val % 256 by omega)⟩
  rw [G5_apply m c r t n h]
  refine (pay3_apply _ _ r n).trans (Finset.sum_congr rfl fun p _ => congrArg₂ (fun a b : EReal => a * b) ?_ ?_)
  · refine congrArg (m (c.tc.loc main_arg0)) ?_
    funext a
    fin_cases a
    · exact Fin.ext (show 2 * (r.val / 2) + r.val % 2 = r.val by omega)
    · rfl
    · exact Fin.ext (permCol_eq p)
  · show (lev (nib (p.val / 2 / 8 % 2) (iblk m c 2 t (ix2 (rowOf p) n))) : EReal) * amPt m c t (ix2 ⟨p.val / 2 / 32, by omega⟩ n) = _
    rw [blk_w m c t (rowOf p) n h, amPt_apply m c t _ n h]
    refine congrArg (fun b => (lev (nib (fieldOf p).val (m (c.tc.loc main_arg1) (ix2 (rowOf p) ⟨256 * t.val + n.val, h⟩))) : EReal)
      * amax (m (c.tc.loc main_arg2)) (m (c.tc.loc main_arg3)) (m (c.tc.loc main_arg4)) b ⟨256 * t.val + n.val, h⟩) ?_
    exact Fin.ext (show p.val / 2 / 32 = wdRow (p.val / 2) (p.val % 2) / 32 by unfold wdRow; omega)

end Cert.Proof

end
-- ==== Proof.Order.lean ====
/- The order of the contraction (hand-written): the kernel's positions name every packed row's two fields once each, so
   its one sum is the reference's two. -/
module

public import proofs.«01_k».proof.Proof.Product

@[expose] public section

noncomputable section

namespace Cert.Proof

/-- The position that holds field `q` of packed row `k`. -/
def posOf (k : Fin 1792) (q : Fin 2) : Fin 3584 :=
  ⟨2 * (32 * (k.val / 32) + 16 * (k.val % 2) + 8 * q.val + k.val % 32 / 4) + k.val % 4 / 2, by omega⟩

/-- The parts of a packed row's number. -/
theorem split_row (k : ℕ) (hk : k < 1792) : ∃ a b c d : ℕ, a < 56 ∧ b < 8 ∧ c < 2 ∧ d < 2 ∧ k = 32 * a + 4 * b + 2 * c + d :=
  ⟨k / 32, k % 32 / 4, k % 4 / 2, k % 2, by omega, by omega, by omega, by omega, by omega⟩

/-- The position of a row given by its parts. -/
theorem posOf_parts (a b c d q : ℕ) (hb : b < 8) (hc : c < 2) (hd : d < 2) (h : 32 * a + 4 * b + 2 * c + d < 1792) (hq : q < 2) :
    (posOf ⟨32 * a + 4 * b + 2 * c + d, h⟩ ⟨q, hq⟩).val = 64 * a + 32 * d + 16 * q + 2 * b + c := by
  have e1 : (32 * a + 4 * b + 2 * c + d) / 32 = a := by omega
  have e2 : (32 * a + 4 * b + 2 * c + d) % 2 = d := by omega
  have e3 : (32 * a + 4 * b + 2 * c + d) % 32 / 4 = b := by omega
  have e4 : (32 * a + 4 * b + 2 * c + d) % 4 / 2 = c := by omega
  simp only [posOf, e1, e2, e3, e4]
  omega

/-- The row and the field of a position given by its parts. -/
theorem rowOf_parts (p : Fin 3584) (a b c d q : ℕ) (hb : b < 8) (hc : c < 2) (hd : d < 2) (hq : q < 2)
    (h : p.val = 64 * a + 32 * d + 16 * q + 2 * b + c) :
    (rowOf p).val = 32 * a + 4 * b + 2 * c + d ∧ (fieldOf p).val = q := by
  have e1 : p.val / 2 = 32 * a + 16 * d + 8 * q + b := by omega
  have e2 : p.val % 2 = c := by omega
  simp only [rowOf, fieldOf, wdRow, e1, e2]
  omega

/-- A position, and the row and field it holds. -/
def posEquiv : Fin 1792 × Fin 2 ≃ Fin 3584 where
  toFun x := posOf x.1 x.2
  invFun p := (rowOf p, fieldOf p)
  left_inv := by
    rintro ⟨⟨k, hk⟩, ⟨q, hq⟩⟩
    obtain ⟨a, b, c, d, ha, hb, hc, hd, rfl⟩ := split_row k hk
    have e := rowOf_parts (posOf ⟨32 * a + 4 * b + 2 * c + d, hk⟩ ⟨q, hq⟩) a b c d q hb hc hd hq (posOf_parts a b c d q hb hc hd hk hq)
    exact Prod.ext (Fin.ext e.1) (Fin.ext e.2)
  right_inv := by
    intro p
    obtain ⟨a, b, c, d, q, hb, hc, hd, hq, h⟩ : ∃ a b c d q : ℕ, b < 8 ∧ c < 2 ∧ d < 2 ∧ q < 2 ∧ p.val = 64 * a + 32 * d + 16 * q + 2 * b + c :=
      ⟨p.val / 64, p.val % 16 / 2, p.val % 2, p.val % 64 / 32, p.val % 32 / 16, by omega, by omega, by omega, by omega, by omega⟩
    obtain ⟨e, f⟩ := rowOf_parts p a b c d q hb hc hd hq h
    have er : rowOf p = ⟨32 * a + 4 * b + 2 * c + d, e ▸ (rowOf p).isLt⟩ := Fin.ext e
    have ef : fieldOf p = ⟨q, hq⟩ := Fin.ext f
    refine Fin.ext ?_
    show (posOf (rowOf p) (fieldOf p)).val = p.val
    rw [er, ef, posOf_parts a b c d q hb hc hd _ hq, h]

/-- A sum over the kernel's positions is the sum over the low fields plus the sum over the high ones. -/
theorem sum_positions (f : Fin 1792 → Fin 2 → EReal) :
    ∑ p : Fin 3584, f (rowOf p) (fieldOf p) = (∑ k : Fin 1792, f k 0) + ∑ k : Fin 1792, f k 1 := by
  rw [← Finset.sum_add_distrib, ← Equiv.sum_comp posEquiv, Fintype.sum_prod_type]
  refine Finset.sum_congr rfl fun k _ => ?_
  rw [Fin.sum_univ_two]
  have e : ∀ q, rowOf (posEquiv (k, q)) = k ∧ fieldOf (posEquiv (k, q)) = q := fun q =>
    ⟨congrArg Prod.fst (posEquiv.left_inv (k, q)), congrArg Prod.snd (posEquiv.left_inv (k, q))⟩
  rw [(e 0).1, (e 0).2, (e 1).1, (e 1).2]

end Cert.Proof

end
-- ==== Proof.Ref.lean ====
/- The reference's result read at an entry (hand-written): its stages named, each read at an index, and the whole as the
   two sums of the problem's product. -/
module

public import proofs.«01_k».proof.Proof.Product
public import proofs.«01_k».proof.Proof.Gen.ReferenceIdeal.Run
public import Idealize.ShloMosaic.Lib.Tactic.CleanTypes

@[expose] public section

noncomputable section

open Idealize.ShloMosaic Idealize.ShloMosaic.TcCoe Idealize.SL.Sem Cert.ReferenceIdeal Cert.ReferenceIdeal.Gen Cert.ReferenceIdeal.Value

namespace Cert.Proof

/-- Whether a code has a bit. -/
def bitOf (code : IVec S1792x9472 32) (b : BitVec 32) : IVec S1792x9472 1 :=
  cmpi .ne (andi code (broadcastInDim S1792x9472 ![] bcast_S_S1792x9472 (constantI S_ 32 b))) (broadcastInDim S1792x9472 ![] bcast_S_S1792x9472 (constantI S_ 32 0#32))

/-- The reference's choice of a level by a code's four bits. -/
def levelOf (code : IVec S1792x9472 32) : FVec Ideal S1792x9472 .f32 :=
  select (bitOf code 8#32) (select (bitOf code 4#32) (select (bitOf code 2#32) (select (bitOf code 1#32) (broadcastInDim S1792x9472 ![] bcast_S_S1792x9472 (constant S_ .f32 0x3F800000#32)) (broadcastInDim S1792x9472 ![] bcast_S_S1792x9472 (constant S_ .f32 0x3F3913B3#32))) (select (bitOf code 1#32) (broadcastInDim S1792x9472 ![] bcast_S_S1792x9472 (constant S_ .f32 0x3F1007AB#32)) (broadcastInDim S1792x9472 ![] bcast_S_S1792x9472 (constant S_ .f32 0x3EE1A4B8#32)))) (select (bitOf code 2#32) (select (bitOf code 1#32) (broadcastInDim S1792x9472 ![] bcast_S_S1792x9472 (constant S_ .f32 0x3EAD033A#32)) (broadcastInDim S1792x9472 ![] bcast_S_S1792x9472 (constant S_ .f32 0x3E7C04DD#32))) (select (bitOf code 1#32) (broadcastInDim S1792x9472 ![] bcast_S_S1792x9472 (constant S_ .f32 0x3E24CAE3#32)) (broadcastInDim S1792x9472 ![] bcast_S_S1792x9472 (constant S_ .f32 0x3DA2FAFF#32))))) (select (bitOf code 4#32) (select (bitOf code 2#32) (select (bitOf code 1#32) (broadcastInDim S1792x9472 ![] bcast_S_S1792x9472 (constant S_ .f32 0x00000000#32)) (broadcastInDim S1792x9472 ![] bcast_S_S1792x9472 (constant S_ .f32 0xBDBA7871#32))) (select (bitOf code 1#32) (broadcastInDim S1792x9472 ![] bcast_S_S1792x9472 (constant S_ .f32 0xBE3D353F#32)) (broadcastInDim S1792x9472 ![] bcast_S_S1792x9472 (constant S_ .f32 0xBE91A24D#32)))) (select (bitOf code 2#32) (select (bitOf code 1#32) (broadcastInDim S1792x9472 ![] bcast_S_S1792x9472 (constant S_ .f32 0xBECA32A0#32)) (broadcastInDim S1792x9472 ![] bcast_S_S1792x9472 (constant S_ .f32 0xBF066B30#32))) (select (bitOf code 1#32) (broadcastInDim S1792x9472 ![] bcast_S_S1792x9472 (constant S_ .f32 0xBF3239B1#32)) (broadcastInDim S1792x9472 ![] bcast_S_S1792x9472 (constant S_ .f32 0xBF800000#32)))))

/-- The reference's low codes. -/
def loCode (W : IVec S1792x9472 8) : IVec S1792x9472 32 :=
  andi (extui 32 W natLt_8_32) (broadcastInDim S1792x9472 ![] bcast_S_S1792x9472 (constantI S_ 32 15#32))

/-- The reference's high codes. -/
def hiCode (W : IVec S1792x9472 8) : IVec S1792x9472 32 :=
  Host.shrsi (extui 32 W natLt_8_32) (broadcastInDim S1792x9472 ![] bcast_S_S1792x9472 (constantI S_ 32 4#32))

/-- The reference's absmax values. -/
def amRef (C : IVec S56x9472 8) (S : FVec Ideal S56x37 .f32) (O : FVec Ideal S_ .f32) : FVec Ideal S56x9472 .f32 :=
  shapeCast S56x9472 (addf (mulf (shapeCast S56x37x256 (sitofp .f32 (extsi 32 C natLt_8_32)) shapeCasts_S56x9472_S56x37x256) (broadcastInDim S56x37x256 ![0, 1, 2] bcast_S56x37x1_S56x37x256_0_1_2 (broadcastInDim S56x37x1 ![0, 1] bcast_S56x37_S56x37x1_0_1 S))) (broadcastInDim S56x37x256 ![] bcast_S_S56x37x256 O)) shapeCasts_S56x37x256_S56x9472

/-- The reference's dequantised weights. -/
def wRef (L : FVec Ideal S1792x9472 .f32) (A : FVec Ideal S56x9472 .f32) : FVec Ideal S1792x9472 .bf16 :=
  truncf .bf16 (shapeCast S1792x9472 (mulf (shapeCast S56x32x9472 L shapeCasts_S1792x9472_S56x32x9472) (broadcastInDim S56x32x9472 ![0, 1, 2] bcast_S56x1x9472_S56x32x9472_0_1_2 (broadcastInDim S56x1x9472 ![0, 2] bcast_S56x9472_S56x1x9472_0_2 A))) shapeCasts_S56x32x9472_S1792x9472) bitsLt_bf16_f32

/-- The reference's result over its weights. -/
def yRef (X : FVec Ideal S256x1x3584 .bf16) (wl wh : FVec Ideal S1792x9472 .bf16) : FVec Ideal S256x9472 .bf16 :=
  shapeCast S256x9472 (truncf .bf16 (addf (Host.dotGeneral dot_S256x1x1792_S1792x9472_S256x1x9472_2_0_01_1_n_n none (Host.slice S256x1x1792 ![0, 0, 0] ![1, 1, 2] X slicesBy_S256x1x3584_S256x1x1792_0s1_0s1_0s2) wl)
    (Host.dotGeneral dot_S256x1x1792_S1792x9472_S256x1x9472_2_0_01_1_n_n none (Host.slice S256x1x1792 ![0, 0, 1] ![1, 1, 2] X slicesBy_S256x1x3584_S256x1x1792_0s1_0s1_1s2) wh)) bitsLt_bf16_f32) shapeCasts_S256x1x9472_S256x9472

/-- The reference's result is its stages. -/
theorem res_eq (m : (ℓ : Loc nD τ sig) → Buf (Elt Ideal) ℓ) (c : Dev nD) :
    res_main_v94 m c = yRef (m (c.tc.loc main_arg0)) (wRef (levelOf (loCode (m (c.tc.loc main_arg1)))) (amRef (m (c.tc.loc main_arg2)) (m (c.tc.loc main_arg3)) (m (c.tc.loc main_arg4))))
      (wRef (levelOf (hiCode (m (c.tc.loc main_arg1)))) (amRef (m (c.tc.loc main_arg2)) (m (c.tc.loc main_arg3)) (m (c.tc.loc main_arg4)))) := rfl

/-- A choice by a code's bits is the level of the code. -/
theorem levelOf_apply (code : IVec S1792x9472 32) (k : Fin 1792) (n : Fin 9472) (b : BitVec 4) (h : code (ix2 k n) = b.setWidth 32) :
    levelOf code (ix2 k n) = lev b := by
  pointwise [levelOf, bitOf]
  rw [h]
  obtain ⟨v, hv, rfl⟩ : ∃ v, v < 16 ∧ b = BitVec.ofNat 4 v := ⟨b.toNat, b.isLt, by simp⟩
  clear h
  interval_cases v <;> simp [Scalar.select, IntOp.cmpi, IntOp.andi, lev, nfBits] <;> rfl

/-- The low code is the byte's low field. -/
theorem loCode_apply (W : IVec S1792x9472 8) (k : Fin 1792) (n : Fin 9472) : loCode W (ix2 k n) = (nib 0 (W (ix2 k n))).setWidth 32 := by
  pointwise [loCode]
  generalize W (ix2 k n) = w
  revert w
  decide +kernel

/-- The high code is the byte's high field. -/
theorem hiCode_apply (W : IVec S1792x9472 8) (k : Fin 1792) (n : Fin 9472) : hiCode W (ix2 k n) = (nib 1 (W (ix2 k n))).setWidth 32 := by
  pointwise [hiCode]
  generalize W (ix2 k n) = w
  revert w
  decide +kernel

/-- A code's number is the same read at eight bits and at thirty-two. -/
theorem sitofp_signExtend (w : BitVec 8) :
    (FloatOps.sitofp (F := Ideal) FTy.f32 (BitVec.signExtend 32 w) : EReal) = FloatOps.sitofp (F := Ideal) FTy.f32 w := by
  have h : (BitVec.signExtend 32 w).toInt = w.toInt := BitVec.toInt_signExtend_of_le (by omega)
  show (((BitVec.signExtend 32 w).toInt : ℝ) : EReal) = ((w.toInt : ℝ) : EReal)
  rw [h]

/-- The absmax values, at an entry. -/
theorem amRef_apply (C : IVec S56x9472 8) (S : FVec Ideal S56x37 .f32) (O : FVec Ideal S_ .f32) (b : Fin 56) (n : Fin 9472) :
    (amRef C S O (ix2 b n) : EReal) = amax C S O b n := by
  pointwise [amRef]
  refine congrArg (fun v : EReal => v * S (ix2 b ⟨n.val / 256, by omega⟩) + O ix0) ?_
  exact sitofp_signExtend _

/-- The weights, at an entry. -/
theorem wRef_apply (L : FVec Ideal S1792x9472 .f32) (A : FVec Ideal S56x9472 .f32) (k : Fin 1792) (n : Fin 9472) :
    wRef L A (ix2 k n) = (L (ix2 k n) * A (ix2 ⟨k.val / 32, by omega⟩ n) : EReal) := by
  pointwise [wRef]

/-- The result, at an entry. -/
theorem yRef_apply (X : FVec Ideal S256x1x3584 .bf16) (wl wh : FVec Ideal S1792x9472 .bf16) (r : Fin 256) (n : Fin 9472) :
    yRef X wl wh (ix2 r n) = ((∑ k : Fin 1792, X (ix3 r 0 ⟨2 * k.val + 0, by omega⟩) * wl (ix2 k n)) + ∑ k : Fin 1792, X (ix3 r 0 ⟨2 * k.val + 1, by omega⟩) * wh (ix2 k n) : EReal) := by
  pointwise [yRef]
  refine congrArg (fun v : EReal => (∑ k : Fin 1792, X (ix3 r 0 ⟨2 * k.val, by omega⟩) * wl (ix2 k n)) + v) (Finset.sum_congr rfl fun k _ => ?_)
  exact congrArg (fun v : Fin 3584 => (X (ix3 r 0 v) * wh (ix2 k n) : EReal)) (Fin.ext (Nat.add_comm 1 (2 * k.val)))

/-- The reference's result at row `r`, column `n`: the sum over the low fields and the sum over the high ones. -/
theorem ref_apply (m : (ℓ : Loc nD τ sig) → Buf (Elt Ideal) ℓ) (c : Dev nD) (r : Fin 256) (n : Fin 9472) :
    (res_main_v94 m c (ix2 r n) : EReal) = (∑ k : Fin 1792, term (m (c.tc.loc main_arg0)) (m (c.tc.loc main_arg1)) (m (c.tc.loc main_arg2)) (m (c.tc.loc main_arg3)) (m (c.tc.loc main_arg4)) r n k 0)
      + ∑ k : Fin 1792, term (m (c.tc.loc main_arg0)) (m (c.tc.loc main_arg1)) (m (c.tc.loc main_arg2)) (m (c.tc.loc main_arg3)) (m (c.tc.loc main_arg4)) r n k 1 := by
  rw [res_eq]
  refine (yRef_apply _ _ _ r n).trans ?_
  refine congrArg₂ (fun a b : EReal => a + b) (Finset.sum_congr rfl fun k _ => ?_) (Finset.sum_congr rfl fun k _ => ?_)
  · rw [wRef_apply, levelOf_apply _ k n _ (loCode_apply _ k n), amRef_apply]
    rfl
  · rw [wRef_apply, levelOf_apply _ k n _ (hiCode_apply _ k n), amRef_apply]
    rfl

end Cert.Proof

end
-- ==== Proof.Value.lean ====
/- The kernel and the reference compute the same result (hand-written): the equation between the two programs' terms, and
   the claim it gives. -/
module

public import proofs.«01_k».proof.Proof.Order
public import proofs.«01_k».proof.Proof.Ref
public import proofs.«01_k».proof.Defs
public import Idealize.ShloMosaic.Lib.Claim

@[expose] public section

noncomputable section

open Idealize.ShloMosaic Idealize.ShloMosaic.TcCoe Idealize.SL.Sem

namespace Cert.Proof

/-- From arguments that agree, the kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)) :
    Cert.ReferenceIdeal.Value.res_main_v94 m' c = Cert.KernelIdeal.Value.G5 m c := by
  obtain ⟨h0, h1, h2, h3, h4⟩ := h
  funext j
  obtain ⟨r, n, rfl⟩ : ∃ (r : Fin 256) (n : Fin 9472), j = ix2 r n := ⟨j 0, j 1, eq_ix2 j⟩
  have e := ref_apply m' c r n
  rw [h0, h1, h2, h3, h4] at e
  exact e.trans ((kernel_apply m c r n).trans (sum_positions _)).symm

/-- The algebraic conjunct. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run m g
  · run_from Cert.ReferenceIdeal.Value.run m' g'
    exact result_eq m m' c (hagree c)

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  frame_p, frame_pi, frame_ri, preserves, algebraic⟩

end Cert.Proof

end
